-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨4, ![2, 256, 256, 128]⟩ ⟨4, ![2, 1024, 256, 128]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = Layout.block ⟨4, ![2, 256, 256, 256]⟩ ⟨4, ![2, 1024, 256, 256]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v20) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x256x256x128 : Shape := ⟨4, ![2, 256, 256, 128]⟩
abbrev S128x256 : Shape := ⟨2, ![128, 256]⟩
abbrev S_ : Shape := ⟨0, ![]⟩

class Facts : Prop where
  bcast_S_S2x256x256x128 : S_.BroadcastsInDim S2x256x256x128 (![] : Fin 0 → Fin S2x256x256x128.rank)
  reducesTo_S2x256x256x128_S_d0_1_2_3 : S2x256x256x128.ReducesTo [0, 1, 2, 3] S_
  h_S_ : 0 < S_.numel

variable [Facts]

def fn {F : FTy → Type} [FloatOps F] (main_arg0 : FVec F S2x256x256x128 .f32) (main_arg1 : FVec F S128x256 .f32) : IVec S_ 1 :=
  let main_v0 : FVec F S2x256x256x128 .f32 := Host.absf main_arg0
  let main_cst : FVec F S_ .f32 := constant S_ .f32 0x7F800000#32
  let main_v1 : FVec F S2x256x256x128 .f32 := broadcastInDim S2x256x256x128 ![] bcast_S_S2x256x256x128 main_cst
  let main_v2 : IVec S2x256x256x128 1 := cmpf .olt main_v0 main_v1
  let main_c : IVec S_ 1 := constantI S_ 1 1#1
  let main_v3 : IVec S_ 1 := (fun x v => Host.reduce IntOp.andi x v reducesTo_S2x256x256x128_S_d0_1_2_3 h_S_) main_v2 main_c
  main_v3
-- ==== Pre_finite_ReferenceIdeal.lean ====
abbrev S2x1024x256x128 : Shape := ⟨4, ![2, 1024, 256, 128]⟩
abbrev S128x256 : Shape := ⟨2, ![128, 256]⟩
abbrev S_ : Shape := ⟨0, ![]⟩

class Facts : Prop where
  bcast_S_S2x1024x256x128 : S_.BroadcastsInDim S2x1024x256x128 (![] : Fin 0 → Fin S2x1024x256x128.rank)
  reducesTo_S2x1024x256x128_S_d0_1_2_3 : S2x1024x256x128.ReducesTo [0, 1, 2, 3] S_
  h_S_ : 0 < S_.numel

variable [Facts]

def fn {F : FTy → Type} [FloatOps F] (main_arg0 : FVec F S2x1024x256x128 .f32) (main_arg1 : FVec F S128x256 .f32) : IVec S_ 1 :=
  let main_v0 : FVec F S2x1024x256x128 .f32 := Host.absf main_arg0
  let main_cst : FVec F S_ .f32 := constant S_ .f32 0x7F800000#32
  let main_v1 : FVec F S2x1024x256x128 .f32 := broadcastInDim S2x1024x256x128 ![] bcast_S_S2x1024x256x128 main_cst
  let main_v2 : IVec S2x1024x256x128 1 := cmpf .olt main_v0 main_v1
  let main_c : IVec S_ 1 := constantI S_ 1 1#1
  let main_v3 : IVec S_ 1 := (fun x v => Host.reduce IntOp.andi x v reducesTo_S2x1024x256x128_S_d0_1_2_3 h_S_) main_v2 main_c
  main_v3
-- ==== Kernel.lean ====
abbrev S2x256x256x128 : Shape := ⟨4, ![2, 256, 256, 128]⟩
abbrev S128x256 : Shape := ⟨2, ![128, 256]⟩
abbrev S2x2x128 : Shape := ⟨3, ![2, 2, 128]⟩
abbrev S2x32x256x128 : Shape := ⟨4, ![2, 32, 256, 128]⟩
abbrev S4x2x2x128 : Shape := ⟨4, ![4, 2, 2, 128]⟩
abbrev S3 : Shape := ⟨1, ![3]⟩
abbrev S4 : Shape := ⟨1, ![4]⟩
abbrev S2x128 : Shape := ⟨2, ![2, 128]⟩
abbrev S1x2x128 : Shape := ⟨3, ![1, 2, 128]⟩
abbrev S_ : Shape := ⟨0, ![]⟩
abbrev S1x2x2x128 : Shape := ⟨4, ![1, 2, 2, 128]⟩
abbrev S1 : Shape := ⟨1, ![1]⟩
abbrev S2x256x256x256 : Shape := ⟨4, ![2, 256, 256, 256]⟩
abbrev S2x32x256x256 : Shape := ⟨4, ![2, 32, 256, 256]⟩
abbrev S2x1x1x128 : Shape := ⟨4, ![2, 1, 1, 128]⟩
abbrev S16384x128 : Shape := ⟨2, ![16384, 128]⟩
abbrev S16384x256 : Shape := ⟨2, ![16384, 256]⟩

abbrev nBuf : Space → Nat
  | .hbm => 4
  | .vmem => 11
  | .smem => 0
  | _ => 0

abbrev bufTy : (tb : Table) → Fin (tcTables nBuf tb) → BufTy
  | .hbm, ⟨0, _⟩ => ⟨S2x256x256x128, .f32⟩
  | .hbm, ⟨1, _⟩ => ⟨S128x256, .f32⟩
  | .hbm, ⟨2, _⟩ => ⟨S2x2x128, .f32⟩
  | .hbm, ⟨3, _⟩ => ⟨S2x256x256x256, .bf16⟩
  | .local _ .vmem, ⟨0, _⟩ => ⟨S2x32x256x128, .f32⟩
  | .local _ .vmem, ⟨1, _⟩ => ⟨S2x32x256x128, .f32⟩
  | .local _ .vmem, ⟨2, _⟩ => ⟨S2x2x128, .f32⟩
  | .local _ .vmem, ⟨3, _⟩ => ⟨S2x2x128, .f32⟩
  | .local _ .vmem, ⟨4, _⟩ => ⟨S4x2x2x128, .f32⟩
  | .local _ .vmem, ⟨5, _⟩ => ⟨S2x32x256x128, .f32⟩
  | .local _ .vmem, ⟨6, _⟩ => ⟨S2x32x256x128, .f32⟩
  | .local _ .vmem, ⟨7, _⟩ => ⟨S2x2x128, .f32⟩
  | .local _ .vmem, ⟨8, _⟩ => ⟨S128x256, .f32⟩
  | .local _ .vmem, ⟨9, _⟩ => ⟨S2x32x256x256, .bf16⟩
  | .local _ .vmem, ⟨10, _⟩ => ⟨S2x32x256x256, .bf16⟩
  | _, _ => ⟨S2x256x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  (ofTc nBuf bufTy 1 16 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_scratch1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15
abbrev barrier0 : Sem sig := 0

abbrev nD : Nat := 4
abbrev τ : Topo := Topo.v7x

variable {F : FTy → Type} [FloatOps F]

abbrev grid0 : Pipeline.Grid := ⟨1, ![8], ![false]⟩

def k0_cond3 (i : grid0.Coords) : BitVec 1 :=
  let arg0 : BitVec 32 := BitVec.ofNat 32 (i 0).val
  let c7_i32 : BitVec 32 := 7#32
  let v11 : BitVec 1 := Scalar.cmpi .eq arg0 c7_i32
  let v12 : BitVec 32 := Scalar.extui v11
  let c0_i32_7 : BitVec 32 := 0#32
  let v13 : BitVec 1 := Scalar.cmpi .ne v12 c0_i32_7
  v13

def k0_dev1 (d14 : Dev nD) : Nat :=
  let c0_i32_17 : BitVec 32 := 0#32
  let v14 : BitVec 32 := Dev.word d14
  let c1_i32 : BitVec 32 := 1#32
  let v15 : BitVec 32 := Scalar.divsi v14 c1_i32
  let c4_i32 : BitVec 32 := 4#32
  let v16 : BitVec 32 := Scalar.remsi v15 c4_i32
  let c1_i32_8 : BitVec 32 := 1#32
  let v18 : BitVec 32 := Scalar.addi v16 c1_i32_8
  let c4_i32_9 : BitVec 32 := 4#32
  let c0_i32_10 : BitVec 32 := 0#32
  let v19 : BitVec 1 := Scalar.cmpi .eq c4_i32_9 c0_i32_10
  let c1_i32_11 : BitVec 32 := 1#32
  let v20 : BitVec 32 := Scalar.select v19 c1_i32_11 c4_i32_9
  let v21 : BitVec 32 := Scalar.remsi v18 v20
  let c0_i32_13 : BitVec 32 := 0#32
  let v23 : BitVec 1 := Scalar.cmpi .slt v21 c0_i32_13
  let c0_i32_14 : BitVec 32 := 0#32
  let v24 : BitVec 1 := Scalar.cmpi .slt v20 c0_i32_14
  let v25 : BitVec 1 := Scalar.xori v23 v24
  let c0_i32_12 : BitVec 32 := 0#32
  let v22 : BitVec 1 := Scalar.cmpi .ne v21 c0_i32_12
  let v26 : BitVec 1 := Scalar.andi v25 v22
  let v27 : BitVec 32 := Scalar.addi v21 v20
  let v28 : BitVec 32 := Scalar.select v26 v27 v21
  let c1_i32_16 : BitVec 32 := 1#32
  let v29 : BitVec 32 := Scalar.muli v28 c1_i32_16
  let v30 : BitVec 32 := Scalar.addi c0_i32_17 v29
  v30.toNat
def k0_dev2 (d14 : Dev nD) : Nat :=
  let c0_i32_26 : BitVec 32 := 0#32
  let v14 : BitVec 32 := Dev.word d14
  let c1_i32 : BitVec 32 := 1#32
  let v15 : BitVec 32 := Scalar.divsi v14 c1_i32
  let c4_i32 : BitVec 32 := 4#32
  let v16 : BitVec 32 := Scalar.remsi v15 c4_i32
  let c2_i32 : BitVec 32 := 2#32
  let v31 : BitVec 32 := Scalar.addi v16 c2_i32
  let c4_i32_18 : BitVec 32 := 4#32
  let c0_i32_19 : BitVec 32 := 0#32
  let v32 : BitVec 1 := Scalar.cmpi .eq c4_i32_18 c0_i32_19
  let c1_i32_20 : BitVec 32 := 1#32
  let v33 : BitVec 32 := Scalar.select v32 c1_i32_20 c4_i32_18
  let v34 : BitVec 32 := Scalar.remsi v31 v33
  let c0_i32_22 : BitVec 32 := 0#32
  let v36 : BitVec 1 := Scalar.cmpi .slt v34 c0_i32_22
  let c0_i32_23 : BitVec 32 := 0#32
  let v37 : BitVec 1 := Scalar.cmpi .slt v33 c0_i32_23
  let v38 : BitVec 1 := Scalar.xori v36 v37
  let c0_i32_21 : BitVec 32 := 0#32
  let v35 : BitVec 1 := Scalar.cmpi .ne v34 c0_i32_21
  let v39 : BitVec 1 := Scalar.andi v38 v35
  let v40 : BitVec 32 := Scalar.addi v34 v33
  let v41 : BitVec 32 := Scalar.select v39 v40 v34
  let c1_i32_25 : BitVec 32 := 1#32
  let v42 : BitVec 32 := Scalar.muli v41 c1_i32_25
  let v43 : BitVec 32 := Scalar.addi c0_i32_26 v42
  v43.toNat
def k0_dev3 (d14 : Dev nD) : Nat :=
  let c0_i32_35 : BitVec 32 := 0#32
  let v14 : BitVec 32 := Dev.word d14
  let c1_i32 : BitVec 32 := 1#32
  let v15 : BitVec 32 := Scalar.divsi v14 c1_i32
  let c4_i32 : BitVec 32 := 4#32
  let v16 : BitVec 32 := Scalar.remsi v15 c4_i32
  let c3_i32 : BitVec 32 := 3#32
  let v44 : BitVec 32 := Scalar.addi v16 c3_i32
  let c4_i32_27 : BitVec 32 := 4#32
  let c0_i32_28 : BitVec 32 := 0#32
  let v45 : BitVec 1 := Scalar.cmpi .eq c4_i32_27 c0_i32_28
  let c1_i32_29 : BitVec 32 := 1#32
  let v46 : BitVec 32 := Scalar.select v45 c1_i32_29 c4_i32_27
  let v47 : BitVec 32 := Scalar.remsi v44 v46
  let c0_i32_31 : BitVec 32 := 0#32
  let v49 : BitVec 1 := Scalar.cmpi .slt v47 c0_i32_31
  let c0_i32_32 : BitVec 32 := 0#32
  let v50 : BitVec 1 := Scalar.cmpi .slt v46 c0_i32_32
  let v51 : BitVec 1 := Scalar.xori v49 v50
  let c0_i32_30 : BitVec 32 := 0#32
  let v48 : BitVec 1 := Scalar.cmpi .ne v47 c0_i32_30
  let v52 : BitVec 1 := Scalar.andi v51 v48
  let v53 : BitVec 32 := Scalar.addi v47 v46
  let v54 : BitVec 32 := Scalar.select v52 v53 v47
  let c1_i32_34 : BitVec 32 := 1#32
  let v55 : BitVec 32 := Scalar.muli v54 c1_i32_34
  let v56 : BitVec 32 := Scalar.addi c0_i32_35 v55
  v56.toNat
def k0_off1 (d14 : Dev nD) : Fin 4 → Nat :=
  let v14 : BitVec 32 := Dev.word d14
  let c1_i32 : BitVec 32 := 1#32
  let v15 : BitVec 32 := Scalar.divsi v14 c1_i32
  let c4_i32 : BitVec 32 := 4#32
  let v16 : BitVec 32 := Scalar.remsi v15 c4_i32
  let v58 : Index := Scalar.indexCast v16
  let c0_40 : Index := 0#32
  let c0_41 : Index := 0#32
  let c0_42 : Index := 0#32
  ![v58.toNat, 0, 0, 0]
def k0_off2 (d14 : Dev nD) : Fin 1 → Nat :=
  let v14 : BitVec 32 := Dev.word d14
  let c1_i32 : BitVec 32 := 1#32
  let v15 : BitVec 32 := Scalar.divsi v14 c1_i32
  let c4_i32 : BitVec 32 := 4#32
  let v16 : BitVec 32 := Scalar.remsi v15 c4_i32
  ![v16.toNat]
def k0_off3 (d14 : Dev nD) : Fin 4 → Nat :=
  let v14 : BitVec 32 := Dev.word d14
  let c1_i32 : BitVec 32 := 1#32
  let v15 : BitVec 32 := Scalar.divsi v14 c1_i32
  let c4_i32 : BitVec 32 := 4#32
  let v16 : BitVec 32 := Scalar.remsi v15 c4_i32
  let c0_i32_53 : BitVec 32 := 0#32
  let c0_i32_54 : BitVec 32 := 0#32
  let c0_i32_55 : BitVec 32 := 0#32
  ![v16.toNat, 0, 0, 0]
def k0_dev4 (d14 : Dev nD) : Nat :=
  let c0_i32_52 : BitVec 32 := 0#32
  let v14 : BitVec 32 := Dev.word d14
  let c1_i32 : BitVec 32 := 1#32
  let v15 : BitVec 32 := Scalar.divsi v14 c1_i32
  let c4_i32 : BitVec 32 := 4#32
  let v16 : BitVec 32 := Scalar.remsi v15 c4_i32
  let c1_i32_43 : BitVec 32 := 1#32
  let v62 : BitVec 32 := Scalar.addi v16 c1_i32_43
  let c4_i32_44 : BitVec 32 := 4#32
  let c0_i32_45 : BitVec 32 := 0#32
  let v63 : BitVec 1 := Scalar.cmpi .eq c4_i32_44 c0_i32_45
  let c1_i32_46 : BitVec 32 := 1#32
  let v64 : BitVec 32 := Scalar.select v63 c1_i32_46 c4_i32_44
  let v65 : BitVec 32 := Scalar.remsi v62 v64
  let c0_i32_48 : BitVec 32 := 0#32
  let v67 : BitVec 1 := Scalar.cmpi .slt v65 c0_i32_48
  let c0_i32_49 : BitVec 32 := 0#32
  let v68 : BitVec 1 := Scalar.cmpi .slt v64 c0_i32_49
  let v69 : BitVec 1 := Scalar.xori v67 v68
  let c0_i32_47 : BitVec 32 := 0#32
  let v66 : BitVec 1 := Scalar.cmpi .ne v65 c0_i32_47
  let v70 : BitVec 1 := Scalar.andi v69 v66
  let v71 : BitVec 32 := Scalar.addi v65 v64
  let v72 : BitVec 32 := Scalar.select v70 v71 v65
  let c1_i32_51 : BitVec 32 := 1#32
  let v73 : BitVec 32 := Scalar.muli v72 c1_i32_51
  let v74 : BitVec 32 := Scalar.addi c0_i32_52 v73
  v74.toNat
def k0_dev5 (d14 : Dev nD) : Nat :=
  let c0_i32_68 : BitVec 32 := 0#32
  let v14 : BitVec 32 := Dev.word d14
  let c1_i32 : BitVec 32 := 1#32
  let v15 : BitVec 32 := Scalar.divsi v14 c1_i32
  let c4_i32 : BitVec 32 := 4#32
  let v16 : BitVec 32 := Scalar.remsi v15 c4_i32
  let c2_i32_59 : BitVec 32 := 2#32
  let v83 : BitVec 32 := Scalar.addi v16 c2_i32_59
  let c4_i32_60 : BitVec 32 := 4#32
  let c0_i32_61 : BitVec 32 := 0#32
  let v84 : BitVec 1 := Scalar.cmpi .eq c4_i32_60 c0_i32_61
  let c1_i32_62 : BitVec 32 := 1#32
  let v85 : BitVec 32 := Scalar.select v84 c1_i32_62 c4_i32_60
  let v86 : BitVec 32 := Scalar.remsi v83 v85
  let c0_i32_64 : BitVec 32 := 0#32
  let v88 : BitVec 1 := Scalar.cmpi .slt v86 c0_i32_64
  let c0_i32_65 : BitVec 32 := 0#32
  let v89 : BitVec 1 := Scalar.cmpi .slt v85 c0_i32_65
  let v90 : BitVec 1 := Scalar.xori v88 v89
  let c0_i32_63 : BitVec 32 := 0#32
  let v87 : BitVec 1 := Scalar.cmpi .ne v86 c0_i32_63
  let v91 : BitVec 1 := Scalar.andi v90 v87
  let v92 : BitVec 32 := Scalar.addi v86 v85
  let v93 : BitVec 32 := Scalar.select v91 v92 v86
  let c1_i32_67 : BitVec 32 := 1#32
  let v94 : BitVec 32 := Scalar.muli v93 c1_i32_67
  let v95 : BitVec 32 := Scalar.addi c0_i32_68 v94
  v95.toNat
def k0_dev6 (d14 : Dev nD) : Nat :=
  let c0_i32_84 : BitVec 32 := 0#32
  let v14 : BitVec 32 := Dev.word d14
  let c1_i32 : BitVec 32 := 1#32
  let v15 : BitVec 32 := Scalar.divsi v14 c1_i32
  let c4_i32 : BitVec 32 := 4#32
  let v16 : BitVec 32 := Scalar.remsi v15 c4_i32
  let c3_i32_75 : BitVec 32 := 3#32
  let v104 : BitVec 32 := Scalar.addi v16 c3_i32_75
  let c4_i32_76 : BitVec 32 := 4#32
  let c0_i32_77 : BitVec 32 := 0#32
  let v105 : BitVec 1 := Scalar.cmpi .eq c4_i32_76 c0_i32_77
  let c1_i32_78 : BitVec 32 := 1#32
  let v106 : BitVec 32 := Scalar.select v105 c1_i32_78 c4_i32_76
  let v107 : BitVec 32 := Scalar.remsi v104 v106
  let c0_i32_80 : BitVec 32 := 0#32
  let v109 : BitVec 1 := Scalar.cmpi .slt v107 c0_i32_80
  let c0_i32_81 : BitVec 32 := 0#32
  let v110 : BitVec 1 := Scalar.cmpi .slt v106 c0_i32_81
  let v111 : BitVec 1 := Scalar.xori v109 v110
  let c0_i32_79 : BitVec 32 := 0#32
  let v108 : BitVec 1 := Scalar.cmpi .ne v107 c0_i32_79
  let v112 : BitVec 1 := Scalar.andi v111 v108
  let v113 : BitVec 32 := Scalar.addi v107 v106
  let v114 : BitVec 32 := Scalar.select v112 v113 v107
  let c1_i32_83 : BitVec 32 := 1#32
  let v115 : BitVec 32 := Scalar.muli v114 c1_i32_83
  let v116 : BitVec 32 := Scalar.addi c0_i32_84 v115
  v116.toNat
def k0_off4 (d14 : Dev nD) (c1_i32_91 : BitVec 32) : Fin 1 → Nat :=
  let v14 : BitVec 32 := Dev.word d14
  let c1_i32 : BitVec 32 := 1#32
  let v15 : BitVec 32 := Scalar.divsi v14 c1_i32
  let c4_i32 : BitVec 32 := 4#32
  let v16 : BitVec 32 := Scalar.remsi v15 c4_i32
  let v125 : BitVec 32 := Scalar.subi v16 c1_i32_91
  let c4_i32_92 : BitVec 32 := 4#32
  let c0_i32_93 : BitVec 32 := 0#32
  let v126 : BitVec 1 := Scalar.cmpi .eq c4_i32_92 c0_i32_93
  let c1_i32_94 : BitVec 32 := 1#32
  let v127 : BitVec 32 := Scalar.select v126 c1_i32_94 c4_i32_92
  let v128 : BitVec 32 := Scalar.remsi v125 v127
  let c0_i32_96 : BitVec 32 := 0#32
  let v130 : BitVec 1 := Scalar.cmpi .slt v128 c0_i32_96
  let c0_i32_97 : BitVec 32 := 0#32
  let v131 : BitVec 1 := Scalar.cmpi .slt v127 c0_i32_97
  let v132 : BitVec 1 := Scalar.xori v130 v131
  let c0_i32_95 : BitVec 32 := 0#32
  let v129 : BitVec 1 := Scalar.cmpi .ne v128 c0_i32_95
  let v133 : BitVec 1 := Scalar.andi v132 v129
  let v134 : BitVec 32 := Scalar.addi v128 v127
  let v135 : BitVec 32 := Scalar.select v133 v134 v128
  ![v135.toNat]
def k0_off5 (d14 : Dev nD) (c1_i32_91 : BitVec 32) : Fin 4 → Nat :=
  let v14 : BitVec 32 := Dev.word d14
  let c1_i32 : BitVec 32 := 1#32
  let v15 : BitVec 32 := Scalar.divsi v14 c1_i32
  let c4_i32 : BitVec 32 := 4#32
  let v16 : BitVec 32 := Scalar.remsi v15 c4_i32
  let v125 : BitVec 32 := Scalar.subi v16 c1_i32_91
  let c4_i32_92 : BitVec 32 := 4#32
  let c0_i32_93 : BitVec 32 := 0#32
  let v126 : BitVec 1 := Scalar.cmpi .eq c4_i32_92 c0_i32_93
  let c1_i32_94 : BitVec 32 := 1#32
  let v127 : BitVec 32 := Scalar.select v126 c1_i32_94 c4_i32_92
  let v128 : BitVec 32 := Scalar.remsi v125 v127
  let c0_i32_96 : BitVec 32 := 0#32
  let v130 : BitVec 1 := Scalar.cmpi .slt v128 c0_i32_96
  let c0_i32_97 : BitVec 32 := 0#32
  let v131 : BitVec 1 := Scalar.cmpi .slt v127 c0_i32_97
  let v132 : BitVec 1 := Scalar.xori v130 v131
  let c0_i32_95 : BitVec 32 := 0#32
  let v129 : BitVec 1 := Scalar.cmpi .ne v128 c0_i32_95
  let v133 : BitVec 1 := Scalar.andi v132 v129
  let v134 : BitVec 32 := Scalar.addi v128 v127
  let v135 : BitVec 32 := Scalar.select v133 v134 v128
  let c0_i32_101 : BitVec 32 := 0#32
  let c0_i32_102 : BitVec 32 := 0#32
  let c0_i32_103 : BitVec 32 := 0#32
  ![v135.toNat, 0, 0, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S2x32x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![8], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage1_0 : Fin 2 → Memref sig .tc .vmem S2x32x256x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2x2x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2x32x256x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== ReferenceIdeal.lean ====
abbrev S2x1024x256x128 : Shape := ⟨4, ![2, 1024, 256, 128]⟩
abbrev S128x256 : Shape := ⟨2, ![128, 256]⟩
abbrev S_ : Shape := ⟨0, ![]⟩
abbrev S2x128 : Shape := ⟨2, ![2, 128]⟩
abbrev S2x1x1x128 : Shape := ⟨4, ![2, 1, 1, 128]⟩
abbrev S524288x128 : Shape := ⟨2, ![524288, 128]⟩
abbrev S524288x256 : Shape := ⟨2, ![524288, 256]⟩
abbrev S2x1024x256x256 : Shape := ⟨4, ![2, 1024, 256, 256]⟩

abbrev nBuf : Space → Nat
  | .hbm => 50
  | .vmem => 0
  | .smem => 0
  | _ => 0

abbrev bufTy : (tb : Table) → Fin (tcTables nBuf tb) → BufTy
  | .hbm, ⟨0, _⟩ => ⟨S2x1024x256x128, .f32⟩
  | .hbm, ⟨1, _⟩ => ⟨S128x256, .f32⟩
  | .hbm, ⟨2, _⟩ => ⟨S_, .f32⟩
  | .hbm, ⟨3, _⟩ => ⟨S2x128, .f32⟩
  | .hbm, ⟨4, _⟩ => ⟨S2x1x1x128, .f32⟩
  | .hbm, ⟨5, _⟩ => ⟨S_, .f32⟩
  | .hbm, ⟨6, _⟩ => ⟨S2x1x1x128, .f32⟩
  | .hbm, ⟨7, _⟩ => ⟨S2x1x1x128, .f32⟩
  | .hbm, ⟨8, _⟩ => ⟨S_, .i32⟩
  | .hbm, ⟨9, _⟩ => ⟨S_, .f32⟩
  | .hbm, ⟨10, _⟩ => ⟨S2x128, .f32⟩
  | .hbm, ⟨11, _⟩ => ⟨S2x1x1x128, .f32⟩
  | .hbm, ⟨12, _⟩ => ⟨S_, .f32⟩
  | .hbm, ⟨13, _⟩ => ⟨S2x1x1x128, .f32⟩
  | .hbm, ⟨14, _⟩ => ⟨S2x1x1x128, .f32⟩
  | .hbm, ⟨15, _⟩ => ⟨S2x1024x256x128, .f32⟩
  | .hbm, ⟨16, _⟩ => ⟨S2x1024x256x128, .f32⟩
  | .hbm, ⟨17, _⟩ => ⟨S2x1024x256x128, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S2x128, .f32⟩
  | .hbm, ⟨23, _⟩ => ⟨S2x1x1x128, .f32⟩
  | .hbm, ⟨24, _⟩ => ⟨S2x1x1x128, .f32⟩
  | .hbm, ⟨25, _⟩ => ⟨S2x1x1x128, .f32⟩
  | .hbm, ⟨26, _⟩ => ⟨S_, .f32⟩
  | .hbm, ⟨27, _⟩ => ⟨S_, .i1⟩
  | .hbm, ⟨28, _⟩ => ⟨S_, .f32⟩
  | .hbm, ⟨29, _⟩ => ⟨S_, .f32⟩
  | .hbm, ⟨30, _⟩ => ⟨S2x1x1x128, .f32⟩
  | .hbm, ⟨31, _⟩ => ⟨S2x1x1x128, .f32⟩
  | .hbm, ⟨32, _⟩ => ⟨S2x1024x256x128, .f32⟩
  | .hbm, ⟨33, _⟩ => ⟨S2x1024x256x128, .f32⟩
  | .hbm, ⟨34, _⟩ => ⟨S_, .f32⟩
  | .hbm, ⟨35, _⟩ => ⟨S2x1x1x128, .f32⟩
  | .hbm, ⟨36, _⟩ => ⟨S2x1x1x128, .f32⟩
  | .hbm, ⟨37, _⟩ => ⟨S2x1x1x128, .f32⟩
  | .hbm, ⟨38, _⟩ => ⟨S2x1024x256x128, .f32⟩
  | .hbm, ⟨39, _⟩ => ⟨S2x1024x256x128, .f32⟩
  | .hbm, ⟨40, _⟩ => ⟨S2x1024x256x128, .f32⟩
  | .hbm, ⟨41, _⟩ => ⟨S2x1024x256x128, .f32⟩
  | .hbm, ⟨42, _⟩ => ⟨S_, .f32⟩
  | .hbm, ⟨43, _⟩ => ⟨S2x1024x256x128, .f32⟩
  | .hbm, ⟨44, _⟩ => ⟨S2x1024x256x128, .f32⟩
  | .hbm, ⟨45, _⟩ => ⟨S2x1024x256x128, .f32⟩
  | .hbm, ⟨46, _⟩ => ⟨S524288x128, .f32⟩
  | .hbm, ⟨47, _⟩ => ⟨S524288x256, .f32⟩
  | .hbm, ⟨48, _⟩ => ⟨S2x1024x256x256, .f32⟩
  | .hbm, ⟨49, _⟩ => ⟨S2x1024x256x256, .bf16⟩
  | _, _ => ⟨S2x1024x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_cst : Ref sig .tc := ⟨.hbm, 9, rfl⟩
abbrev main_call0_v0 : Ref sig .tc := ⟨.hbm, 10, rfl⟩
abbrev main_call0_v1 : Ref sig .tc := ⟨.hbm, 11, rfl⟩
abbrev main_call0_cst_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_cst_1 : Ref sig .tc := ⟨.hbm, 19, rfl⟩
abbrev main_call0_v8 : Ref sig .tc := ⟨.hbm, 20, rfl⟩
abbrev main_call0_cst_2 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_cst_3 : Ref sig .tc := ⟨.hbm, 26, rfl⟩
abbrev main_call0_v13 : Ref sig .tc := ⟨.hbm, 27, rfl⟩
abbrev main_call0_cst_4 : Ref sig .tc := ⟨.hbm, 28, rfl⟩
abbrev main_call0_call0_v0 : Ref sig .tc := ⟨.hbm, 29, rfl⟩
abbrev main_call0_call0_v1 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_cst_1 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_cst_2 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩

abbrev nD : Nat := 1
abbrev τ : Topo := Topo.v7x

variable {F : FTy → Type} [FloatOps F]
-- ==== Proof.Cells.lean ====
/- The exchange of the statistics kernel, part one: who talks to whom, and what the printed addresses, semaphores and
   device numbers of the exchange are in closed form. Every statement is over an arbitrary float instance. -/
module

public import proofs.«01_k».proof.Proof.Gen.KernelIdeal.Points
public import proofs.«01_k».proof.Proof.Gen.KernelIdeal.Skeleton
public import proofs.«01_k».proof.Proof.Gen.KernelIdeal.Launch
public import proofs.«01_k».proof.Proof.Gen.KernelIdeal.Regions
public import Idealize.ShloMosaic.Lib.Pipeline.Kit
public import Idealize.ShloMosaic.Lib.Rounds
public import Idealize.ShloMosaic.Lib.StableHlo
public import Idealize.ShloMosaic.Lib.Tactic
public import Idealize.ShloMosaic.Lib.Writes
public import Idealize.ShloMosaic.PureOps
public import Idealize.ShloMosaic.Lib.Pipeline.RegionTalk

@[expose] public section

noncomputable section

namespace Cert.KernelIdeal.Talk

open Idealize.ShloMosaic
open Idealize.ShloMosaic.TcCoe
open Idealize.SL Idealize.SL.RA Idealize.SL.BI
open Idealize.SL.Sem
open Cert.KernelIdeal Cert.KernelIdeal.Gen

variable {F : FTy → Type} [FloatOps F]

/-! ## The devices -/

/-- The device the `k`-th signal and the `k`-th copy of device `c` go to: `k + 1` places further round the ring. -/
def peer (c : Dev nD) (k : Fin 3) : Dev nD := ⟨(c.val + k.val + 1) % 4, Nat.mod_lt _ (by decide)⟩
/-- The device whose `k`-th copy device `c` receives: `k + 1` places back. -/
def ante (c : Dev nD) (k : Fin 3) : Dev nD := ⟨(c.val + 3 - k.val) % 4, Nat.mod_lt _ (by decide)⟩

theorem ante_peer : ∀ (c : Dev nD) (k : Fin 3), ante (peer c k) k = c := by decide
theorem peer_ante : ∀ (c : Dev nD) (k : Fin 3), peer (ante c k) k = c := by decide
theorem peer_ne : ∀ (c : Dev nD) (k : Fin 3), peer c k ≠ c := by decide
theorem ne_peer : ∀ (c : Dev nD) (k : Fin 3), c ≠ peer c k := by decide
theorem ante_ne : ∀ (c : Dev nD) (k : Fin 3), ante c k ≠ c := by decide
theorem peer_inj : ∀ (c : Dev nD) (k l : Fin 3), peer c k = peer c l → k = l := by decide
theorem ante_inj : ∀ (c : Dev nD) (k l : Fin 3), ante c k = ante c l → k = l := by decide
theorem peer_inj_dev : ∀ (c d : Dev nD) (k : Fin 3), peer c k = peer d k → c = d := by decide
theorem erase_peers : ∀ c : Dev nD, (Finset.univ.erase c : Finset (Dev nD)) = [peer c 0, peer c 1, peer c 2].toFinset := by decide
theorem univ_peers : ∀ c : Dev nD, (Finset.univ : Finset (Dev nD)) = [c, peer c 0, peer c 1, peer c 2].toFinset := by decide
theorem nodup_peers : ∀ c : Dev nD, [c, peer c 0, peer c 1, peer c 2].Nodup := by decide
theorem nodup_peers3 : ∀ c : Dev nD, [peer c 0, peer c 1, peer c 2].Nodup := by decide
theorem univ_antes : ∀ c : Dev nD, (Finset.univ : Finset (Dev nD)) = [c, ante c 0, ante c 1, ante c 2].toFinset := by decide
theorem nodup_antes : ∀ c : Dev nD, [c, ante c 0, ante c 1, ante c 2].Nodup := by decide

/-! ## The printed device numbers and offsets -/

theorem dev1_eq : ∀ c : Dev nD, k0_dev1 c = (peer c 0).val := by decide +kernel
theorem dev2_eq : ∀ c : Dev nD, k0_dev2 c = (peer c 1).val := by decide +kernel
theorem dev3_eq : ∀ c : Dev nD, k0_dev3 c = (peer c 2).val := by decide +kernel
theorem dev4_eq : ∀ c : Dev nD, k0_dev4 c = (peer c 0).val := by decide +kernel
theorem dev5_eq : ∀ c : Dev nD, k0_dev5 c = (peer c 1).val := by decide +kernel
theorem dev6_eq : ∀ c : Dev nD, k0_dev6 c = (peer c 2).val := by decide +kernel
theorem off4_eq : ∀ (c : Dev nD) (k : Fin 3), k0_off4 c (BitVec.ofNat 32 (1 + k.val)) = ![(ante c k).val] := by decide +kernel
theorem off5_eq : ∀ (c : Dev nD) (k : Fin 3), k0_off5 c (BitVec.ofNat 32 (1 + k.val)) = ![(ante c k).val, 0, 0, 0] := by decide +kernel

/-! ## The slots of the exchange buffer and the semaphores -/

/-- The exchange buffer, whole. -/
abbrev commM : Memref sig .tc .vmem S4x2x2x128 .f32 := Memref.whole cc0_scratch1
/-- The accumulator, whole. -/
abbrev accM : Memref sig .tc .vmem S2x2x128 .f32 := Memref.whole cc0_scratch0

theorem slot_inb (d : Dev nD) : ∀ a : Fin 4, (![d.val, 0, 0, 0] : Fin 4 → ℕ) a + S1x2x2x128.size a ≤ S4x2x2x128.size a := by
  revert d; decide

/-- The rectangle of slot `d` of the exchange buffer. -/
abbrev slotRect (d : Dev nD) : Rect S4x2x2x128 := Rect.unit (s := S4x2x2x128) ![d.val, 0, 0, 0] S1x2x2x128.size (slot_inb d)

/-- Slot `d` of the exchange buffer: where device `d`'s accumulator lands. -/
abbrev slot (d : Dev nD) : Memref sig .tc .vmem S2x2x128 .f32 :=
  (commM.slice (slotRect d) (fun _ => rfl)).squeeze S2x2x128 squeezes_S1x2x2x128_S2x2x128

theorem slot_of_off (d : Dev nD) (off : Fin 4 → ℕ) (h : off = ![d.val, 0, 0, 0]) (inb) :
    ((commM.slice (Rect.unit (s := S4x2x2x128) off S1x2x2x128.size inb) (fun _ => rfl)).squeeze S2x2x128
      squeezes_S1x2x2x128_S2x2x128 : Memref sig .tc .vmem S2x2x128 .f32) = slot d := by subst h; rfl

/-- The semaphore the `k`-th copy counts its source on. -/
abbrev sendS (k : Fin 3) : DmaSem sig := ⟨3 + k.val, by have := k.isLt; show _ < 16; omega⟩
/-- The semaphore the copy from device `d` is received on. -/
abbrev recvS (d : Dev nD) : DmaSem sig := ⟨6 + d.val, by have := d.isLt; show _ < 16; have : d.val < 4 := d.isLt; omega⟩

theorem recv_of_off (d : Dev nD) (off : Fin 1 → ℕ) (h : off = ![d.val]) (inb) :
    ((cc0_scratch3.slice (Rect.unit (s := S4) off S1.size inb)).squeeze S_ squeezes_S1_S_).sem = recvS d := by
  subst h
  apply Fin.ext
  show 6 + (S4.rowMajor _).val = 6 + d.val
  rw [Shape.rowMajor_val_one, Rect.emb_apply]
  generalize (Shape.reshapeEquiv squeezes_S1_S_.numel_eq (fun i => i.elim0) : S1.Idx) = x
  have hx : (x 0).val < 1 := (x 0).isLt
  show 6 + (d.val + 1 * (x 0).val) = _
  omega

theorem send_of_off (k : Fin 3) (off : Fin 1 → ℕ) (h : off = ![k.val]) (inb) :
    ((cc0_scratch2.slice (Rect.unit (s := S3) off S1.size inb)).squeeze S_ squeezes_S1_S_).sem = sendS k := by
  subst h
  apply Fin.ext
  show 3 + (S3.rowMajor _).val = 3 + k.val
  rw [Shape.rowMajor_val_one, Rect.emb_apply]
  generalize (Shape.reshapeEquiv squeezes_S1_S_.numel_eq (fun i => i.elim0) : S1.Idx) = x
  have hx : (x 0).val < 1 := (x 0).isLt
  show 3 + (k.val + 1 * (x 0).val) = _
  omega

/-- The elements of slot `d`, as indices of the exchange buffer. -/
abbrev slotSet (d : Dev nD) : Finset S4x2x2x128.Idx := (slot d).view.set

theorem slotSet_eq (d : Dev nD) : slotSet d = (slotRect d).set :=
  (View.set_reshape ((View.whole cc0_scratch1).slice (slotRect d)) _).trans (View.set_slice_whole cc0_scratch1 (slotRect d))

/-- A slot's elements: those of the exchange buffer whose first coordinate is the slot's number. -/
theorem mem_slot (d : Dev nD) (i : S4x2x2x128.Idx) : i ∈ slotSet d ↔ (i 0).val = d.val := by
  rw [slotSet_eq, Rect.mem_set_unit]
  constructor
  · intro h
    have h0 := h 0
    have h1 : d.val ≤ (i 0).val := h0.1
    have h2 : (i 0).val < d.val + 1 := h0.2
    omega
  · intro h a
    have ha := (i a).isLt
    match a with
    | 0 => exact ⟨h.ge, by rw [h]; exact Nat.lt_succ_self _⟩
    | 1 => exact ⟨Nat.zero_le _, by rw [Nat.add_comm]; exact ha⟩
    | 2 => exact ⟨Nat.zero_le _, by rw [Nat.add_comm]; exact ha⟩
    | 3 => exact ⟨Nat.zero_le _, by rw [Nat.add_comm]; exact ha⟩

theorem slot_disjoint {d e : Dev nD} (h : d ≠ e) : Disjoint (slotSet d) (slotSet e) :=
  Finset.disjoint_left.mpr fun i hi hj => h (Fin.ext (((mem_slot d i).mp hi).symm.trans ((mem_slot e i).mp hj)))

theorem slot_cover : (Finset.univ : Finset (Dev nD)).biUnion slotSet = Finset.univ :=
  Finset.eq_univ_iff_forall.mpr fun i => Finset.mem_biUnion.mpr ⟨i 0, Finset.mem_univ _, (mem_slot (i 0) i).mpr rfl⟩

/-! ## What the exchange buffer holds -/

/-- The exchange buffer once every device's accumulator `st d` has landed in slot `d`. -/
def comm (st : Dev nD → Vec F S2x2x128 .f32) : Vec F S4x2x2x128 .f32 := fun i => st (i 0) (fun a => i a.succ)

/-- Where slot `d`'s element `j` lies in the exchange buffer. -/
theorem slot_emb (d : Dev nD) (j : S2x2x128.Idx) :
    ((slot d).view.emb j : S4x2x2x128.Idx) = Fin.cons d j := by
  show (slotRect d).emb (Shape.reshapeEquiv _ j) = _
  rw [show Shape.reshapeEquiv (s := (slotRect d).shape) (s' := S2x2x128) squeezes_S1x2x2x128_S2x2x128.numel_eq j
    = Fin.cons ⟨0, Nat.one_pos⟩ j from Shape.reshapeEquiv_cons_one _ j]
  funext a
  apply Fin.ext
  rw [Rect.emb_apply]
  match a with
  | 0 => rfl
  | 1 => exact (Nat.zero_add _).trans (Nat.one_mul _)
  | 2 => exact (Nat.zero_add _).trans (Nat.one_mul _)
  | 3 => exact (Nat.zero_add _).trans (Nat.one_mul _)

/-- Reading slot `d` of such a buffer gives device `d`'s accumulator. -/
theorem read_comm (st : Dev nD → Vec F S2x2x128 .f32) (d : Dev nD) : (slot d).view.read (Elt F) (comm st) = st d := by
  funext j
  rw [View.read_apply]
  show comm st ((slot d).view.emb j) = _
  rw [slot_emb]
  rfl

/-- Writing device `d`'s accumulator to slot `d` gives a buffer that is, on that slot, the exchanged one. -/
theorem write_comm (st : Dev nD → Vec F S2x2x128 .f32) (d : Dev nD) (f : Vec F S4x2x2x128 .f32) :
    ∀ i ∈ slotSet d, (slot d).view.write (Elt F) f ((slot d).view.read (Elt F) (comm st)) Finset.univ i = comm st i := by
  intro i hi
  obtain ⟨j, -, rfl⟩ := Finset.mem_map.mp hi
  rw [View.write_emb_of_mem _ _ (Finset.mem_univ _), View.read_apply]
  rfl

/-- The rectangle of slot `d` at an offset that is the slot's. -/
theorem rect_of_off (d : Dev nD) (off : Fin 4 → ℕ) (h : off = ![d.val, 0, 0, 0]) (inb) :
    (Rect.unit (s := S4x2x2x128) off S1x2x2x128.size inb) = slotRect d := by subst h; rfl

theorem access_set (d : Dev nD) : (commM.access (slotRect d)).set = slotSet d :=
  (View.set_slice_whole cc0_scratch1 (slotRect d)).trans (slotSet_eq d).symm

/-- Loading slot `d` of the exchanged buffer gives device `d`'s accumulator under one more axis. -/
theorem load_comm (st : Dev nD → Vec F S2x2x128 .f32) (d : Dev nD) :
    ((commM.access (slotRect d)).read (Elt F) (comm st) : Vec F S1x2x2x128 .f32) = k0_pay9 (st d) := by
  funext j
  rw [View.read_apply]
  show st (((slotRect d).emb j) 0) (fun a => ((slotRect d).emb j) a.succ)
    = st d (Shape.reshapeEquiv shapeCasts_S2x2x128_S1x2x2x128 j)
  have hj : (j 0).val < 1 := (j 0).isLt
  have h0 : ((slotRect d).emb j) 0 = d := by
    apply Fin.ext
    rw [Rect.emb_apply]
    show d.val + 1 * (j 0).val = d.val
    omega
  rw [h0, Shape.reshapeEquiv_eq_of_rowMajor (y := fun a => ((slotRect d).emb j) a.succ)]
  refine (Shape.rowMajor_val_three (d := ![2, 2, 128]) _).trans
    (Eq.trans ?_ (Shape.rowMajor_val_four (d := ![1, 2, 2, 128]) j).symm)
  have e1 : ((slotRect d).emb j 1).val = (j 1).val := by rw [Rect.emb_apply]; exact (Nat.zero_add _).trans (Nat.one_mul _)
  have e2 : ((slotRect d).emb j 2).val = (j 2).val := by rw [Rect.emb_apply]; exact (Nat.zero_add _).trans (Nat.one_mul _)
  have e3 : ((slotRect d).emb j 3).val = (j 3).val := by rw [Rect.emb_apply]; exact (Nat.zero_add _).trans (Nat.one_mul _)
  show (((slotRect d).emb j 1).val * 2 + ((slotRect d).emb j 2).val) * 128 + ((slotRect d).emb j 3).val
    = (((j 0).val * 2 + (j 1).val) * 2 + (j 2).val) * 128 + (j 3).val
  rw [e1, e2, e3]
  omega

/-- Storing device `d`'s accumulator in slot `d` gives a buffer that is, on that slot, the exchanged one. -/
theorem store_comm (st : Dev nD → Vec F S2x2x128 .f32) (d : Dev nD) (f : Vec F S4x2x2x128 .f32) :
    ∀ i ∈ slotSet d, (commM.access (slotRect d)).write (Elt F) f (k0_pay9 (st d)) Finset.univ i = comm st i := by
  intro i hi
  rw [← load_comm st d]
  rw [← access_set d] at hi
  obtain ⟨j, -, rfl⟩ := Finset.mem_map.mp hi
  rw [View.write_emb_of_mem _ _ (Finset.mem_univ _), View.read_apply]
  rfl
-- ==== Proof.Talk.lean ====
/- The exchange of the statistics kernel, part two: the protocol. Every device signals the barrier of the three others,
   handing each the slot it may write; waits for the three signals to its own barrier; stores its accumulator in its own
   slot and copies that slot to the three others; and waits for the three copies to it and for its own three to have
   left. Every statement is over an arbitrary float instance and over the accumulators `st` of the devices. -/
module

public import proofs.«01_k».proof.Proof.Cells
public import Idealize.ShloMosaic.Lib.Ring.Trips

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Gen

variable {F : FTy → Type} [FloatOps F]

/-! ## The resource algebra: the pipeline library's copy and the protocol's, whose duties are named by devices -/

abbrev UU : Type := UR sig nD τ × Rounds.URounds (GSem nD τ sig) (Dev nD)

local notation "𝕄" => MT nD τ sig Unit (Elt F) ℕ UU ℕ

abbrev EP : Emb (UR sig nD τ) (MT nD τ sig Unit (Elt F) ℕ UU ℕ) := embL
abbrev ER : Emb (Rounds.URounds (GSem nD τ sig) (Dev nD)) (MT nD τ sig Unit (Elt F) ℕ UU ℕ) := embR

abbrev 𝒱₀ : Variants := Variants.none

/-! ## Cells and points-tos -/

abbrev barS : Sem sig := (SemArray.scalar (d := ![]) (sig.barrier 0 rfl)).sem
abbrev barCell (c : Dev nD) : GSem nD τ sig := ((c : Thread nD τ), .reg barS)
abbrev sendCell (c : Dev nD) (k : Fin 3) : GSem nD τ sig := ((c : Thread nD τ), .dma (sendS k))
abbrev recvCell (c s : Dev nD) : GSem nD τ sig := ((c : Thread nD τ), .dma (recvS s))

/-- The credit of one copy. -/
abbrev N : ℕ := (slot 0).view.dmaCredit
theorem N_pos : 0 < N := View.dmaCredit_pos _ (by decide)
theorem amount_slot (d s : Dev nD) : (slot d).view.amount (.dma (recvS s)) = N := rfl

/-- Slot `s` of device `c`'s exchange buffer, with contents `f` and share `q`. -/
abbrev slotPts (c s : Dev nD) (q : PosShare TreeShare) (f : Vec F S4x2x2x128 .f32) : sProp 𝕄 :=
  (slot s).view.loc (c : Thread nD τ) ↦[slotSet s]{q} f

/-- The `k`-th third of the full share. -/
abbrev third (k : Fin 3) : PosShare TreeShare := Ring.shares3 fullShare k

/-- What device `d` pays to device `c`'s barrier: its own slot `c`, which `c` may now write, and that the semaphore
    the copy from `c` is received on is in its first round. -/
def barPay (c d : Dev nD) : sProp 𝕄 := iprop((∃ f, slotPts d c fullShare f) ∗ reached ER (recvCell d c) 0)
/-- What the copy from device `d` pays to device `c`: slot `d` of `c`'s buffer, holding `d`'s accumulator. -/
def recvPay (st : Dev nD → Vec F S2x2x128 .f32) (c d : Dev nD) : sProp 𝕄 := slotPts c d fullShare (comm st)
/-- What the `k`-th copy of device `c` pays back to `c` when it has read its source. -/
def sendPay (st : Dev nD → Vec F S2x2x128 .f32) (c : Dev nD) (k : Fin 3) : sProp 𝕄 := slotPts c c (third k) (comm st)

/-! ## The schedule -/

/-- Who pays, in the one round there is, the semaphore `sm` of device `c`. -/
def payers (c : Dev nD) (sm : SemLoc sig) : Finset (Dev nD) :=
  Finset.univ.filter fun d => (sm = .reg barS ∧ d ≠ c) ∨ (sm = .dma (recvS d) ∧ d ≠ c) ∨ ((∃ k : Fin 3, sm = .dma (sendS k)) ∧ d = c)

theorem payers_bar : ∀ c : Dev nD, payers c (.reg barS) = Finset.univ.erase c := by decide +kernel
theorem payers_recv : ∀ c d : Dev nD, d ≠ c → payers c (.dma (recvS d)) = {d} := by decide +kernel
theorem payers_send : ∀ (c : Dev nD) (k : Fin 3), payers c (.dma (sendS k)) = {c} := by decide +kernel

variable (st : Dev nD → Vec F S2x2x128 .f32)

def Rd : Rounds.Schedule (GSem nD τ sig) (Dev nD) 𝕄 where
  duties g r := if r = 0 ∧ g.1.2 = .tc then payers g.1.1 g.2 else ∅
  unitless _ := False
  amount g _ _ := if g.2 = .reg barS then 1 else N
  payload g _ d :=
    if g.2 = .reg barS then barPay g.1.1 d
    else if g.2 = .dma (sendS 0) then sendPay st g.1.1 0
    else if g.2 = .dma (sendS 1) then sendPay st g.1.1 1
    else if g.2 = .dma (sendS 2) then sendPay st g.1.1 2
    else recvPay st g.1.1 d
  amount_pos g _ _ _ := by
    by_cases h : g.2 = .reg barS
    · rw [if_pos h]; exact Nat.one_pos
    · rw [if_neg h]; exact N_pos

instance Rd_payload_storable (g : GSem nD τ sig) (r : ℕ) (d : Dev nD) :
    BI.Storable (upEmb : UEmb _ 𝕄) ((Rd (F := F) st).payload g r d) := by
  show BI.Storable upEmb (if g.2 = .reg barS then barPay g.1.1 d
    else if g.2 = .dma (sendS 0) then sendPay st g.1.1 0
    else if g.2 = .dma (sendS 1) then sendPay st g.1.1 1
    else if g.2 = .dma (sendS 2) then sendPay st g.1.1 2
    else recvPay st g.1.1 d)
  unfold barPay recvPay sendPay
  (repeat' split) <;> infer_instance

theorem dma_ne_bar (s : DmaSem sig) : (SemLoc.dma s : SemLoc sig) ≠ .reg barS := fun h => by cases h
theorem recv_ne_send : ∀ (d : Dev nD) (k : Fin 3), (SemLoc.dma (recvS d) : SemLoc sig) ≠ .dma (sendS k) := by decide

theorem duties_bar (c : Dev nD) : (Rd st).duties (barCell c) 0 = Finset.univ.erase c := by
  dsimp only [Rd]; rw [if_pos ⟨rfl, rfl⟩, payers_bar]
theorem duties_recv (c d : Dev nD) (h : d ≠ c) : (Rd st).duties (recvCell c d) 0 = {d} := by
  dsimp only [Rd]; rw [if_pos ⟨rfl, rfl⟩, payers_recv c d h]
theorem duties_send (c : Dev nD) (k : Fin 3) : (Rd st).duties (sendCell c k) 0 = {c} := by
  dsimp only [Rd]; rw [if_pos ⟨rfl, rfl⟩, payers_send]
theorem duties_later (g : GSem nD τ sig) : ∀ r, 1 ≤ r → (Rd st).duties g r = ∅ :=
  fun r hr => by dsimp only [Rd]; rw [if_neg (fun h => by omega)]

theorem amount_bar (c d : Dev nD) : (Rd st).amount (barCell c) 0 d = 1 := by dsimp only [Rd]; exact if_pos rfl
theorem amount_dma (c : Dev nD) (s : DmaSem sig) (d : Dev nD) : (Rd st).amount ((c : Thread nD τ), .dma s) 0 d = N := by
  dsimp only [Rd]; exact if_neg (dma_ne_bar s)

theorem expect_bar (c : Dev nD) : (Rd st).expect (barCell c) 0 = 3 := by
  unfold Schedule.expect Schedule.amountOf
  rw [duties_bar, Finset.sum_congr rfl (fun d _ => amount_bar st c d), Finset.sum_const, Finset.card_erase_of_mem (Finset.mem_univ _)]
  rfl
theorem expect_recv (c d : Dev nD) (h : d ≠ c) : (Rd st).expect (recvCell c d) 0 = N := by
  unfold Schedule.expect Schedule.amountOf; rw [duties_recv st c d h, Finset.sum_singleton, amount_dma]
theorem expect_send (c : Dev nD) (k : Fin 3) : (Rd st).expect (sendCell c k) 0 = N := by
  unfold Schedule.expect Schedule.amountOf; rw [duties_send, Finset.sum_singleton, amount_dma]

theorem payload_bar (c d : Dev nD) : (Rd st).payload (barCell c) 0 d = barPay c d := by dsimp only [Rd]; exact if_pos rfl
theorem payload_recv (c d e : Dev nD) : (Rd st).payload (recvCell c d) 0 e = recvPay st c e := by
  dsimp only [Rd]
  rw [if_neg (dma_ne_bar _), if_neg (recv_ne_send d 0), if_neg (recv_ne_send d 1), if_neg (recv_ne_send d 2)]
theorem payload_send (c d : Dev nD) (k : Fin 3) : (Rd st).payload (sendCell c k) 0 d = sendPay st c k := by
  dsimp only [Rd]
  rw [if_neg (dma_ne_bar _)]
  match k with
  | 0 => exact if_pos rfl
  | 1 => rw [if_neg (by decide)]; exact if_pos rfl
  | 2 => rw [if_neg (by decide), if_neg (by decide)]; exact if_pos rfl

theorem rest_bar (c : Dev nD) : bigSep ((Rd st).duties (barCell c) 0 \ ∅) (fun d => (Rd st).payload (barCell c) 0 d)
    = iprop(barPay c (peer c 0) ∗ barPay c (peer c 1) ∗ barPay c (peer c 2)) := by
  rw [Finset.sdiff_empty, duties_bar, erase_peers,
    bigSep_congr (fun d _ => payload_bar st c d), bigSep_eq_bigSepL_of_eq _ rfl (nodup_peers3 c)]
  rfl
theorem rest_recv (c d : Dev nD) (h : d ≠ c) :
    bigSep ((Rd st).duties (recvCell c d) 0 \ ∅) (fun e => (Rd st).payload (recvCell c d) 0 e) = recvPay st c d := by
  rw [Finset.sdiff_empty, duties_recv st c d h, bigSep_singleton, payload_recv]
theorem rest_send (c : Dev nD) (k : Fin 3) :
    bigSep ((Rd st).duties (sendCell c k) 0 \ ∅) (fun e => (Rd st).payload (sendCell c k) 0 e) = sendPay st c k := by
  rw [Finset.sdiff_empty, duties_send, bigSep_singleton, payload_send]

/-! ## What a device owes at launch; the levels -/

/-- The `k`-th copy's credit at the device it goes to. -/
def owedSend (c : Dev nD) (k : Fin 3) : CellTallies nD τ sig Unit := tallyAt (recvCell (peer c k) c) () N
/-- The `k`-th signal's unit at the barrier it goes to. -/
def owedSig (c : Dev nD) (k : Fin 3) : CellTallies nD τ sig Unit := tallyAt (barCell (peer c k)) () 1
/-- The three copies' credits, the one paid first last. -/
def owedSends (c : Dev nD) : CellTallies nD τ sig Unit := owedSend c 2 + owedSend c 1 + owedSend c 0
/-- All a device owes from launch to the exchange, what is paid first last. -/
def O₀ (c : Dev nD) : CellTallies nD τ sig Unit := owedSends c + owedSig c 2 + owedSig c 1 + owedSig c 0

def L (g : GSem nD τ sig) : Finset Unit := if g.1.2 = .tc then {()} else ∅
/-- Barrier cells at level 1, the cells a copy is received on at level 2, the rest at 0. -/
def lv (g : GSem nD τ sig) (_ : Unit) : ℕ := if g.2 = .reg barS then 1 else if ∃ d : Dev nD, g.2 = .dma (recvS d) then 2 else 0

theorem L_of_ne (g : GSem nD τ sig) (h : g.1.2 ≠ .tc) : L g = ∅ := if_neg h
theorem L_tc (c : Dev nD) (sm : SemLoc sig) : L ((c : Thread nD τ), sm) = {()} := if_pos rfl

theorem owedSend_pos (c : Dev nD) (k : Fin 3) (g : GSem nD τ sig) (u : Unit) (h : 0 < owedSend c k g u) : g = recvCell (peer c k) c := by
  unfold owedSend at h
  rw [tallyAt_apply] at h
  by_contra hne
  rw [if_neg (fun e => hne e.1)] at h
  exact absurd h (Nat.lt_irrefl 0)

theorem owedSends_pos (c : Dev nD) (g : GSem nD τ sig) (u : Unit) (h : 0 < owedSends c g u) : ∃ d : Dev nD, g = recvCell d c := by
  have h' : 0 < owedSend c 2 g u + owedSend c 1 g u + owedSend c 0 g u := h
  rcases Nat.eq_zero_or_pos (owedSend c 2 g u) with h2 | h2
  · rcases Nat.eq_zero_or_pos (owedSend c 1 g u) with h1 | h1
    · exact ⟨_, owedSend_pos c 0 g u (by omega)⟩
    · exact ⟨_, owedSend_pos c 1 g u h1⟩
  · exact ⟨_, owedSend_pos c 2 g u h2⟩

theorem mayWait_bar (c : Dev nD) : (levAts L lv : sProp 𝕄) ⊢ MayWait (c : Thread nD τ) (.reg barS) () (owedSends c) :=
  MayOwe.of_cut (L := L) (lev := lv) 1 (fun p hp => by rw [Finset.mem_singleton.mp hp, L_tc]; exact Finset.mem_singleton_self _)
    (fun g u hg => by
      obtain ⟨d, rfl⟩ := owedSends_pos c g u hg
      rw [L_tc]; exact Finset.mem_singleton_self _)
    (fun p hp => by rw [Finset.mem_singleton.mp hp]; dsimp only [lv]; rw [if_pos rfl])
    (fun g u hg => by
      obtain ⟨d, rfl⟩ := owedSends_pos c g u hg
      dsimp only [lv]; rw [if_neg (dma_ne_bar _), if_pos ⟨c, rfl⟩]; decide)

theorem close (κ : ℕ) (g : GSem nD τ sig) :
    iprop(cellInv ER (Rd st) κ g ∗ atPos ER g (0 + 1) ∅ 0) ⊢ (|={Set.univ}=> semVal g 0 : sProp 𝕄) :=
  Rounds.cell_close ER (Rd st) (Set.mem_univ κ) id (duties_later st g)

/-! ## The records of the protocol, which every device has -/

/-- The barrier cells of all devices. -/
def barCells : Finset (GSem nD τ sig) := Finset.univ.map ⟨barCell, fun _ _ h => Fin.ext (by injection h with h _; exact congrArg (fun t : Thread nD τ => t.1.val) h)⟩
/-- The copies' cells of all devices: where they count their sources and where they are received. -/
def copyCells : Finset (GSem nD τ sig) :=
  (Finset.univ : Finset (Dev nD × Fin 3)).image (fun p => sendCell p.1 p.2) ∪ (Finset.univ : Finset (Dev nD × Fin 3)).image (fun p => recvCell p.1 (ante p.1 p.2))

theorem mem_bar (c : Dev nD) : barCell c ∈ barCells ∪ copyCells := Finset.mem_union_left _ (Finset.mem_map_of_mem _ (Finset.mem_univ c))
theorem mem_send (c : Dev nD) (k : Fin 3) : sendCell c k ∈ barCells ∪ copyCells :=
  Finset.mem_union_right _ (Finset.mem_union_left _ (Finset.mem_image.mpr ⟨(c, k), Finset.mem_univ _, rfl⟩))
theorem mem_recv (c : Dev nD) (k : Fin 3) : recvCell c (ante c k) ∈ barCells ∪ copyCells :=
  Finset.mem_union_right _ (Finset.mem_union_right _ (Finset.mem_image.mpr ⟨(c, k), Finset.mem_univ _, rfl⟩))
theorem mem_recv_peer (c : Dev nD) (k : Fin 3) : recvCell (peer c k) c ∈ barCells ∪ copyCells := by
  have h := mem_recv (peer c k) k
  rw [ante_peer] at h; exact h

/-- Every cell's invariant at the name the launch gave it, and every barrier cell's first round. -/
def records (κ : GSem nD τ sig → ℕ) : sProp 𝕄 :=
  iprop(bigSep (barCells ∪ copyCells) (fun g => cellInv ER (Rd st) (κ g) g) ∗ bigSep barCells (fun g => reached ER g 0))

instance records_persistent (κ : GSem nD τ sig → ℕ) : BI.Persistent (records st κ) := by unfold records; infer_instance

theorem records_inv (κ : GSem nD τ sig → ℕ) (g : GSem nD τ sig) (h : g ∈ barCells ∪ copyCells) :
    (records st κ : sProp 𝕄) ⊢ cellInv ER (Rd st) (κ g) g := by
  unfold records
  iintro ⟨#H, -⟩
  iapply (show bigSep (barCells ∪ copyCells) (fun g => cellInv ER (Rd st) (κ g) g) ⊢ cellInv ER (Rd st) (κ g) g from bigSep_elim h)
  iexact H

theorem records_bar (κ : GSem nD τ sig → ℕ) (c : Dev nD) : (records st κ : sProp 𝕄) ⊢ reached ER (barCell c) 0 := by
  unfold records
  iintro ⟨-, #H⟩
  iapply (show bigSep barCells (fun g => (reached ER g 0 : sProp 𝕄)) ⊢ reached ER (barCell c) 0 from
    bigSep_elim (Finset.mem_map_of_mem _ (Finset.mem_univ c)))
  iexact H

/-! ## The steps of the exchange -/

section Steps

variable {st}
variable (κ : GSem nD τ sig → ℕ) (c : Dev nD)

/-- The `k`-th signal of device `c`: it hands its slot `peer c k` to the device of that name. -/
theorem signalStep (k : Fin 3) {dst : Dev nD} (hdst : dst.val = (peer c k).val) {O O' : CellTallies nD τ sig Unit} (hO : O' = O + owedSig c k)
    {W : Waits sig Unit} {ρ : Type} {Q : ρ → sProp 𝕄} {prog : PUnit → Prog (TpuEff nD τ sig (Elt F) Λ₀ .tc) ρ} {n : ℤ} (hn : n = ((1 : ℕ) : ℤ)) :
    iprop(records st κ ∗ owes (c : Thread nD τ) O' W ∗ dutyTok ER (barCell (peer c k)) 0 c ∗ (∃ f, slotPts c (peer c k) fullShare f)
        ∗ reached ER (recvCell c (peer c k)) 0)
      ⊢ iprop((owes (c : Thread nD τ) O W -∗ wp frame (wpE (defs₀ (F := F)) 𝒱₀ c none) Set.univ (prog ⟨⟩) Q)
          -∗ wp frame (wpE (defs₀ (F := F)) 𝒱₀ c none) Set.univ (.op (.semSignal (dst, .tc) barS n) prog) Q) := by
  obtain rfl : dst = peer c k := Fin.ext hdst
  subst hn
  iintro ⟨#HR, HO, Htok, Hs, #Hr⟩ Hk
  iapply (Rounds.wp_signal 𝒱₀ ER (Rd st) (c : Thread nD τ) none (dst := (peer c k : Thread nD τ)) (sem := barS) (r := 0) (d := c)
      (κ := κ (barCell (peer c k)))
      (by rw [duties_bar]; exact Finset.mem_erase.mpr ⟨ne_peer c k, Finset.mem_univ _⟩) (amount_bar st (peer c k) c) () O hO)
    $$ [HO Htok Hs]
  · isplitr; · iapply (records_inv st κ _ (mem_bar (peer c k))); iexact HR
    isplitl [HO]; · iexact HO
    isplitl [Htok]; · iexact Htok
    isplitl [Hs]
    · rw [payload_bar]; unfold barPay
      isplitl [Hs]; · iexact Hs
      iexact Hr
    · iapply (records_bar st κ (peer c k)); iexact HR
  iexact Hk

/-- The wait for the three signals: the slots of the three other devices that bear this device's name come with them. -/
theorem barWaitStep {W : Waits sig Unit} {ρ : Type} {Q : ρ → sProp 𝕄} {prog : PUnit → Prog (TpuEff nD τ sig (Elt F) Λ₀ .tc) ρ}
    {n : ℤ} (hn : n = ((3 : ℕ) : ℤ)) :
    iprop(records st κ ∗ levAts L lv ∗ owes (c : Thread nD τ) (owedSends c) W ∗ cred (tallyAt (barCell c) () 3) ∗ atPos ER (barCell c) 0 ∅ 0)
      ⊢ iprop(((owes (c : Thread nD τ) (owedSends c) (insert (SemLoc.reg barS, ()) W) ∗ atPos ER (barCell c) (0 + 1) ∅ 0
              ∗ barPay c (peer c 0) ∗ barPay c (peer c 1) ∗ barPay c (peer c 2))
            -∗ wp frame (wpE (defs₀ (F := F)) 𝒱₀ c none) Set.univ (prog ⟨⟩) Q)
          -∗ wp frame (wpE (defs₀ (F := F)) 𝒱₀ c none) Set.univ (.op (.semWait barS n) prog) Q) := by
  subst hn
  iintro ⟨#HR, #Hlev, HO, Hc, Hat⟩ Hk
  iapply (Rounds.wp_wait_rest_token 𝒱₀ ER (Rd st) (c : Thread nD τ) none (κ := κ (barCell c))
      (wpE_semWait_eq 𝒱₀ (c : Thread nD τ) none Set.univ) (Set.mem_univ _) () (O := owedSends c) (W := W) (R := 0) (m := 0) (T := ∅)
      ((Nat.zero_add 3).trans (expect_bar st c).symm)) $$ [Hc HO Hat]
  · isplitr; · iapply (records_inv st κ _ (mem_bar c)); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar st c)) $$ Hpay
  iapply Hk
  isplitl [HO]; · iexact HO
  isplitl [Hat]; · iexact Hat
  iexact Hp

/-- The `k`-th copy of device `c`: of its slot `c` to slot `c` of device `peer c k`, a third of its source lent for it. -/
theorem sendStep (k : Fin 3) {dst : Dev nD} (hdst : dst.val = (peer c k).val)
    {src tgt : Memref sig .tc .vmem S2x2x128 .f32} (hsrc : src = slot c) (htgt : tgt = slot c)
    {sS rS : DmaSem sig} (hsS : sS = sendS k) (hrS : rS = recvS c)
    {hsc : tgt.view.ref.isScScratch = false} {hws : src.view.WordExact} {hwt : tgt.view.WordExact}
    {hty : DmaTarget.Typed .vmem (.dma rS) (.remote (Dev.tc dst) tgt (.dma sS) hsc)}
    {O O' : CellTallies nD τ sig Unit} (hO : O' = O + owedSend c k)
    {W : Waits sig Unit} {ρ : Type} {Q : ρ → sProp 𝕄} {prog : PUnit → Prog (TpuEff nD τ sig (Elt F) Λ₀ .tc) ρ} :
    iprop(records st κ ∗ owes (c : Thread nD τ) O' W ∗ slotPts c c (third k) (comm st) ∗ barPay c (peer c k)
        ∗ dutyTok ER (sendCell c k) 0 c ∗ reached ER (sendCell c k) 0 ∗ dutyTok ER (recvCell (peer c k) c) 0 c)
      ⊢ iprop(((cred (tallyAt (sendCell c k) () N) ∗ owes (c : Thread nD τ) O W)
            -∗ wp frame (wpE (defs₀ (F := F)) 𝒱₀ c none) Set.univ (prog ⟨⟩) Q)
          -∗ wp frame (wpE (defs₀ (F := F)) 𝒱₀ c none) Set.univ
              (.op (.enqueueDma src (.remote (Dev.tc dst) tgt (.dma sS) hsc) (.dma rS) hws hwt hty) prog) Q) := by
  obtain rfl : dst = peer c k := Fin.ext hdst
  subst hsrc htgt hsS hrS
  iintro ⟨#HR, HO, Hsrc, Hbar, Ht, #Hr, Ht'⟩ Hk
  unfold barPay
  icases Hbar with ⟨⟨%fd, Hdst⟩, #Hr'⟩
  iapply (Rounds.wp_send_pointsTo 𝒱₀ ER (Rd st) (c : Thread nD τ) none (c' := (peer c k : Thread nD τ)) (src := slot c) (dst := slot c)
      (sS := .dma (sendS k)) (sem := .dma (recvS c)) (q := third k) (fs := comm st) (κ₁ := κ (sendCell c k)) (κ₂ := κ (recvCell (peer c k) c))
      (r₁ := 0) (r₂ := 0) (d₁ := c) (d₂ := c) (fd := fd)
      (by rw [duties_send]; exact Finset.mem_singleton_self _)
      (by rw [duties_recv st _ _ (ne_peer c k)]; exact Finset.mem_singleton_self _)
      () () N rfl (amount_dma st c (sendS k) c) (amount_dma st (peer c k) (recvS c) c) O hO (W := W)
      (by rw [payload_send]; exact BI.Entails.refl _)
      (by rw [payload_recv]; unfold recvPay; exact Entails.of_eq (pointsTo_congr (write_comm st c fd)))) $$ [Hsrc Hdst HO Ht Ht']
  · isplitr; · iapply (records_inv st κ _ (mem_send c k)); iexact HR
    isplitr; · iapply (records_inv st κ _ (mem_recv_peer c k)); iexact HR
    isplitl [Hsrc]; · iexact Hsrc
    isplitl [Hdst]; · iexact Hdst
    isplitl [HO]; · iexact HO
    isplitl [Ht]; · iexact Ht
    isplitr; · iexact Hr
    isplitl [Ht']; · iexact Ht'
    iexact Hr'
  iexact Hk

/-- The wait for the `k`-th copy to device `c`: its slot comes back holding the accumulator of the device that sent it. -/
theorem recvWaitStep (k : Fin 3) {rS : DmaSem sig} (hrS : rS = recvS (ante c k))
    {src tgt : Memref sig .tc .vmem S2x2x128 .f32} {d : Dev nD} (ht : tgt = slot d)
    {hws : src.view.WordExact} {hwt : tgt.view.WordExact}
    {W : Waits sig Unit} {ρ : Type} {Q : ρ → sProp 𝕄} {prog : PUnit → Prog (TpuEff nD τ sig (Elt F) Λ₀ .tc) ρ} :
    iprop(records st κ ∗ owes (c : Thread nD τ) 0 W ∗ cred (tallyAt (recvCell c (ante c k)) () N) ∗ atPos ER (recvCell c (ante c k)) 0 ∅ 0)
      ⊢ iprop(((owes (c : Thread nD τ) 0 (insert (SemLoc.dma (recvS (ante c k)), ()) W) ∗ atPos ER (recvCell c (ante c k)) (0 + 1) ∅ 0
              ∗ slotPts c (ante c k) fullShare (comm st))
            -∗ wp frame (wpE (defs₀ (F := F)) 𝒱₀ c none) Set.univ (prog ⟨⟩) Q)
          -∗ wp frame (wpE (defs₀ (F := F)) 𝒱₀ c none) Set.univ (.op (.waitDma2 rS src tgt hws hwt) prog) Q) := by
  subst hrS
  have htgt : tgt.view.dmaCredit = N := by subst ht; rfl
  iintro ⟨#HR, HO, Hc, Hat⟩ Hk
  iapply (Rounds.wp_wait_rest_token 𝒱₀ ER (Rd st) (c : Thread nD τ) none (κ := κ (recvCell c (ante c k)))
      (wpE_waitDma2_eq 𝒱₀ (c : Thread nD τ) none Set.univ) (Set.mem_univ _) () (O := 0) (W := W) (R := 0) (m := 0) (T := ∅)
      ((Nat.zero_add _).trans (htgt.trans (expect_recv st c (ante c k) (ante_ne c k)).symm))) $$ [Hc HO Hat]
  · isplitr; · iapply (records_inv st κ _ (mem_recv c k)); iexact HR
    isplitl [Hc]; · rw [htgt]; iexact Hc
    isplitl [HO]; · iexact HO
    isplitr; · rw [MayWait_zero]; iempintro
    iexact Hat
  iintro ⟨HO, Hat, -, Hpay⟩
  ihave Hp := (Entails.of_eq ((rest_recv st c (ante c k) (ante_ne c k)).trans (by unfold recvPay; rfl))) $$ Hpay
  iapply Hk
  isplitl [HO]; · iexact HO
  isplitl [Hat]; · iexact Hat
  iexact Hp

/-- The wait for the `k`-th copy of device `c` to have read its source: the third lent for it comes back. -/
theorem sendWaitStep (k : Fin 3) {sS : DmaSem sig} (hsS : sS = sendS k)
    {src tgt : Memref sig .tc .vmem S2x2x128 .f32} {d : Dev nD} (ht : tgt = slot d)
    {hws : src.view.WordExact} {hwt : tgt.view.WordExact}
    {W : Waits sig Unit} {ρ : Type} {Q : ρ → sProp 𝕄} {prog : PUnit → Prog (TpuEff nD τ sig (Elt F) Λ₀ .tc) ρ} :
    iprop(records st κ ∗ owes (c : Thread nD τ) 0 W ∗ cred (tallyAt (sendCell c k) () N) ∗ atPos ER (sendCell c k) 0 ∅ 0)
      ⊢ iprop(((owes (c : Thread nD τ) 0 (insert (SemLoc.dma (sendS k), ()) W) ∗ atPos ER (sendCell c k) (0 + 1) ∅ 0
              ∗ slotPts c c (third k) (comm st))
            -∗ wp frame (wpE (defs₀ (F := F)) 𝒱₀ c none) Set.univ (prog ⟨⟩) Q)
          -∗ wp frame (wpE (defs₀ (F := F)) 𝒱₀ c none) Set.univ (.op (.waitDma2 sS src tgt hws hwt) prog) Q) := by
  subst hsS
  have htgt : tgt.view.dmaCredit = N := by subst ht; rfl
  iintro ⟨#HR, HO, Hc, Hat⟩ Hk
  iapply (Rounds.wp_wait_rest_token 𝒱₀ ER (Rd st) (c : Thread nD τ) none (κ := κ (sendCell c k))
      (wpE_waitDma2_eq 𝒱₀ (c : Thread nD τ) none Set.univ) (Set.mem_univ _) () (O := 0) (W := W) (R := 0) (m := 0) (T := ∅)
      ((Nat.zero_add _).trans (htgt.trans (expect_send st c k).symm))) $$ [Hc HO Hat]
  · isplitr; · iapply (records_inv st κ _ (mem_send c k)); iexact HR
    isplitl [Hc]; · rw [htgt]; iexact Hc
    isplitl [HO]; · iexact HO
    isplitr; · rw [MayWait_zero]; iempintro
    iexact Hat
  iintro ⟨HO, Hat, -, Hpay⟩
  ihave Hp := (Entails.of_eq ((rest_send st c k).trans (by unfold sendPay; rfl))) $$ Hpay
  iapply Hk
  isplitl [HO]; · iexact HO
  isplitl [Hat]; · iexact Hat
  iexact Hp

end Steps
-- ==== Proof.Rows.lean ====
/- Loads and stores of the kernel bodies, as rules over what a memref holds: of a whole memref, and of one of the two rows of a
   statistics block (the sums and the sums of squares). Every statement is over an arbitrary float instance. -/
module

public import proofs.«01_k».proof.Proof.Talk

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ UU ℕ

section Rules

variable (c : Dev nD) {S : Shape} {e : EltTy} {κ : Type}

/-- A load through a rectangle reads the rectangle's entries of what the memref holds. -/
theorem loadRule {m : Memref sig .tc .vmem S e} {r : Rect S} {hl : m.view.LoadsAt r.toLoadRect} {q : PosShare TreeShare} {X : S.Idx → Elt F e}
    {kk : (r.shape.Idx → Elt F e) → Prog (TpuEff nD τ sig (Elt F) Λ₀ .tc) κ} {Q : κ → sProp 𝕄} :
    (owns (c : Thread nD τ) m q X : sProp 𝕄)
      ⊢ iprop((owns (c : Thread nD τ) m q X -∗ wp frame (wpE (defs₀ (F := F)) 𝒱₀ c none) Set.univ (kk fun j => X (r.emb j)) Q)
          -∗ wp frame (wpE (defs₀ (F := F)) 𝒱₀ c none) Set.univ (.op (.load m r.toLoadRect hl) kk) Q) := by
  unfold owns
  iintro ⟨%f, %hf, H⟩ Hk
  subst hf
  iapply (wp_load_rect 𝒱₀ (c : Thread nD τ) none Set.univ (m := m) (r := r) (View.set_slice_subset _ _)) $$ H
  iintro H
  iapply Hk
  iexists f
  isplitr; · ipureintro; rfl
  iexact H

/-- A store through a rectangle leaves the stored entries there and the others as they were. -/
theorem storeRule {m : Memref sig .tc .vmem S e} {r : Rect S} {w : r.shape.Idx → Elt F e} {h1 h2} {X : S.Idx → Elt F e} (Y : S.Idx → Elt F e)
    (hin : ∀ j, Y (r.emb j) = w j) (hout : ∀ i, i ∉ r.set → Y i = X i)
    {kk : PUnit → Prog (TpuEff nD τ sig (Elt F) Λ₀ .tc) κ} {Q : κ → sProp 𝕄} :
    (owns (c : Thread nD τ) m fullShare X : sProp 𝕄)
      ⊢ iprop((owns (c : Thread nD τ) m fullShare Y -∗ wp frame (wpE (defs₀ (F := F)) 𝒱₀ c none) Set.univ (kk ⟨⟩) Q)
          -∗ wp frame (wpE (defs₀ (F := F)) 𝒱₀ c none) Set.univ (.op (.store m r w Finset.univ h1 h2) kk) Q) := by
  unfold owns
  iintro ⟨%f, %hf, H⟩ Hk
  subst hf
  iapply (wp_store 𝒱₀ (c : Thread nD τ) none Set.univ (m := m) (r := r) (Mk := Finset.univ) (View.set_slice_subset _ _)) $$ H
  iintro H
  iapply Hk
  iexists _
  isplitr
  swap; · iexact H
  ipureintro
  funext i
  by_cases hi : i ∈ r.set
  · rw [← Rect.map_emb_univ] at hi
    obtain ⟨j, -, rfl⟩ := Finset.mem_map.mp hi
    rw [hin]
    exact View.read_slice_write_emb r f w (Finset.mem_univ j)
  · rw [hout i hi]
    exact View.read_slice_write_of_not_mem r f w Finset.univ (by rw [Rect.map_emb_univ]; exact hi)

end Rules

/-! ## The rows of a statistics block -/

/-- The rectangle of row `k`, as the bodies print it. -/
abbrev row0 : Rect S2x2x128 := Rect.unit (s := S2x2x128) ![0, 0, 0] S1x2x128.size inb_S2x2x128_S1x2x128_0_0_0
abbrev row1 : Rect S2x2x128 := Rect.unit (s := S2x2x128) ![1, 0, 0] S1x2x128.size inb_S2x2x128_S1x2x128_1_0_0

/-- The entry of row `k` of a block that entry `j` of one row names, and the entry of one row that an entry of a block names. -/
def inRow (k : Fin 2) (j : S1x2x128.Idx) : S2x2x128.Idx := Fin.cons k fun a => j a.succ
def offRow (i : S2x2x128.Idx) : S1x2x128.Idx := Fin.cons ⟨0, Nat.one_pos⟩ fun a => i a.succ

/-- Row `k` of a block. -/
def rowOf (k : Fin 2) (X : Vec F S2x2x128 .f32) : Vec F S1x2x128 .f32 := fun j => X (inRow k j)
/-- The block with row `k` replaced. -/
def setRow (k : Fin 2) (X : Vec F S2x2x128 .f32) (p : Vec F S1x2x128 .f32) : Vec F S2x2x128 .f32 :=
  fun i => if (i 0).val = k.val then p (offRow i) else X i
/-- The block of two rows. -/
def rows (p0 p1 : Vec F S1x2x128 .f32) : Vec F S2x2x128 .f32 :=
  fun i => if (i 0).val = 0 then p0 (offRow i) else p1 (offRow i)

theorem cons_tail (k : Fin 2) (j : S1x2x128.Idx) : offRow (inRow k j) = j := by
  funext a
  match a with
  | 0 => exact Fin.ext (by have h : (j 0).val < 1 := (j 0).isLt; show 0 = (j 0).val; omega)
  | 1 => rfl
  | 2 => rfl

theorem emb_row0 (j : S1x2x128.Idx) : row0.emb j = inRow 0 j := by
  funext a; apply Fin.ext; rw [Rect.emb_apply]
  have h : (j 0).val < 1 := (j 0).isLt
  match a with
  | 0 => show 0 + 1 * (j 0).val = 0; omega
  | 1 => exact (Nat.zero_add _).trans (Nat.one_mul _)
  | 2 => exact (Nat.zero_add _).trans (Nat.one_mul _)
theorem emb_row1 (j : S1x2x128.Idx) : row1.emb j = inRow 1 j := by
  funext a; apply Fin.ext; rw [Rect.emb_apply]
  have h : (j 0).val < 1 := (j 0).isLt
  match a with
  | 0 => show 1 + 1 * (j 0).val = 1; omega
  | 1 => exact (Nat.zero_add _).trans (Nat.one_mul _)
  | 2 => exact (Nat.zero_add _).trans (Nat.one_mul _)

theorem mem_row (k : Fin 2) (off : Fin 3 → ℕ) (h : off = ![k.val, 0, 0]) (inb) (i : S2x2x128.Idx) :
    i ∈ (Rect.unit (s := S2x2x128) off S1x2x128.size inb).set ↔ (i 0).val = k.val := by
  subst h
  rw [Rect.mem_set_unit]
  constructor
  · intro h
    have h1 : k.val ≤ (i 0).val := (h 0).1
    have h2 : (i 0).val < k.val + 1 := (h 0).2
    omega
  · intro h a
    have ha := (i a).isLt
    match a with
    | 0 => exact ⟨h.ge, by rw [h]; exact Nat.lt_succ_self _⟩
    | 1 => exact ⟨Nat.zero_le _, by rw [Nat.add_comm]; exact ha⟩
    | 2 => exact ⟨Nat.zero_le _, by rw [Nat.add_comm]; exact ha⟩

theorem rowOf_rows0 (p0 p1 : Vec F S1x2x128 .f32) : rowOf 0 (rows p0 p1) = p0 := by
  funext j; unfold rowOf rows; exact (if_pos rfl).trans (congrArg p0 (cons_tail _ j))
theorem rowOf_rows1 (p0 p1 : Vec F S1x2x128 .f32) : rowOf 1 (rows p0 p1) = p1 := by
  funext j; unfold rowOf rows; exact (if_neg (by decide : ¬ ((1 : Fin 2).val = 0))).trans (congrArg p1 (cons_tail _ j))
theorem rowOf_set01 (X : Vec F S2x2x128 .f32) (p : Vec F S1x2x128 .f32) : rowOf 1 (setRow 0 X p) = rowOf 1 X := by
  funext j; unfold rowOf setRow; exact if_neg (by decide : ¬ ((1 : Fin 2).val = (0 : Fin 2).val))
theorem rowOf_set00 (X : Vec F S2x2x128 .f32) (p : Vec F S1x2x128 .f32) : rowOf 0 (setRow 0 X p) = p := by
  funext j; unfold rowOf setRow; exact (if_pos rfl).trans (congrArg p (cons_tail _ j))
theorem set1_set0 (X : Vec F S2x2x128 .f32) (p0 p1 : Vec F S1x2x128 .f32) : setRow 1 (setRow 0 X p0) p1 = rows p0 p1 := by
  funext i
  unfold setRow rows
  have h : (i 0).val < 2 := (i 0).isLt
  by_cases h0 : (i 0).val = 0
  · rw [if_neg (show ¬ (i 0).val = (1 : Fin 2).val by rw [h0]; decide), if_pos h0]; exact if_pos h0
  · rw [if_pos (show (i 0).val = (1 : Fin 2).val by show (i 0).val = 1; omega), if_neg h0]

section Rows

variable (c : Dev nD) {κ : Type} {m : Memref sig .tc .vmem S2x2x128 .f32} {q : PosShare TreeShare} {X : Vec F S2x2x128 .f32}

theorem loadRow0 {hl : m.view.LoadsAt row0.toLoadRect}
    {kk : Vec F S1x2x128 .f32 → Prog (TpuEff nD τ sig (Elt F) Λ₀ .tc) κ} {Q : κ → sProp 𝕄} :
    (owns (c : Thread nD τ) m q X : sProp 𝕄)
      ⊢ iprop((owns (c : Thread nD τ) m q X -∗ wp frame (wpE (defs₀ (F := F)) 𝒱₀ c none) Set.univ (kk (rowOf 0 X)) Q)
          -∗ wp frame (wpE (defs₀ (F := F)) 𝒱₀ c none) Set.univ (.op (.load m row0.toLoadRect hl) kk) Q) := by
  have h : (fun j => X (row0.emb j)) = rowOf 0 X := funext fun j => congrArg X (emb_row0 j)
  exact h ▸ loadRule c
theorem loadRow1 {hl : m.view.LoadsAt row1.toLoadRect}
    {kk : Vec F S1x2x128 .f32 → Prog (TpuEff nD τ sig (Elt F) Λ₀ .tc) κ} {Q : κ → sProp 𝕄} :
    (owns (c : Thread nD τ) m q X : sProp 𝕄)
      ⊢ iprop((owns (c : Thread nD τ) m q X -∗ wp frame (wpE (defs₀ (F := F)) 𝒱₀ c none) Set.univ (kk (rowOf 1 X)) Q)
          -∗ wp frame (wpE (defs₀ (F := F)) 𝒱₀ c none) Set.univ (.op (.load m row1.toLoadRect hl) kk) Q) := by
  have h : (fun j => X (row1.emb j)) = rowOf 1 X := funext fun j => congrArg X (emb_row1 j)
  exact h ▸ loadRule c
theorem storeRow0 {p : Vec F S1x2x128 .f32} {h1 h2} {kk : PUnit → Prog (TpuEff nD τ sig (Elt F) Λ₀ .tc) κ} {Q : κ → sProp 𝕄} :
    (owns (c : Thread nD τ) m fullShare X : sProp 𝕄)
      ⊢ iprop((owns (c : Thread nD τ) m fullShare (setRow 0 X p) -∗ wp frame (wpE (defs₀ (F := F)) 𝒱₀ c none) Set.univ (kk ⟨⟩) Q)
          -∗ wp frame (wpE (defs₀ (F := F)) 𝒱₀ c none) Set.univ (.op (.store m row0 p Finset.univ h1 h2) kk) Q) :=
  storeRule c (setRow 0 X p)
    (fun j => (congrArg (setRow 0 X p) (emb_row0 j)).trans ((if_pos rfl).trans (congrArg p (cons_tail _ j))))
    (fun i hi => if_neg fun h => hi ((mem_row 0 ![0, 0, 0] rfl inb_S2x2x128_S1x2x128_0_0_0 i).mpr h))
theorem storeRow1 {p : Vec F S1x2x128 .f32} {h1 h2} {kk : PUnit → Prog (TpuEff nD τ sig (Elt F) Λ₀ .tc) κ} {Q : κ → sProp 𝕄} :
    (owns (c : Thread nD τ) m fullShare X : sProp 𝕄)
      ⊢ iprop((owns (c : Thread nD τ) m fullShare (setRow 1 X p) -∗ wp frame (wpE (defs₀ (F := F)) 𝒱₀ c none) Set.univ (kk ⟨⟩) Q)
          -∗ wp frame (wpE (defs₀ (F := F)) 𝒱₀ c none) Set.univ (.op (.store m row1 p Finset.univ h1 h2) kk) Q) :=
  storeRule c (setRow 1 X p)
    (fun j => (congrArg (setRow 1 X p) (emb_row1 j)).trans ((if_pos rfl).trans (congrArg p (cons_tail _ j))))
    (fun i hi => if_neg fun h => hi ((mem_row 1 ![1, 0, 0] rfl inb_S2x2x128_S1x2x128_1_0_0 i).mpr h))

end Rows

section Whole

variable (c : Dev nD) {κ : Type} {S : Shape} {e : EltTy} {m : Memref sig .tc .vmem S e} {q : PosShare TreeShare} {X : S.Idx → Elt F e}

theorem emb_unit_zero {off : Fin S.rank → ℕ} (h : off = fun _ => 0) (inb) (j : S.Idx) :
    (Rect.unit (s := S) off S.size inb).emb j = j := by
  subst h; funext a; apply Fin.ext; rw [Rect.emb_apply]; exact (Nat.zero_add _).trans (Nat.one_mul _)

/-- A load of the whole memref reads what it holds. -/
theorem loadWhole {off : Fin S.rank → ℕ} (h0 : off = fun _ => 0) {inb} {hl : m.view.LoadsAt (Rect.unit (s := S) off S.size inb).toLoadRect}
    {kk : (S.Idx → Elt F e) → Prog (TpuEff nD τ sig (Elt F) Λ₀ .tc) κ} {Q : κ → sProp 𝕄} :
    (owns (c : Thread nD τ) m q X : sProp 𝕄)
      ⊢ iprop((owns (c : Thread nD τ) m q X -∗ wp frame (wpE (defs₀ (F := F)) 𝒱₀ c none) Set.univ (kk X) Q)
          -∗ wp frame (wpE (defs₀ (F := F)) 𝒱₀ c none) Set.univ (.op (.load m (Rect.unit (s := S) off S.size inb).toLoadRect hl) kk) Q) := by
  have h : (fun j => X ((Rect.unit (s := S) off S.size inb).emb j)) = X := funext fun j => congrArg X (emb_unit_zero h0 inb j)
  have := loadRule c (F := F) (m := m) (r := Rect.unit (s := S) off S.size inb) (hl := hl) (q := q) (X := X) (kk := kk) (Q := Q)
  rw [h] at this
  exact this

/-- A store to the whole memref leaves what was stored. -/
theorem storeWhole {off : Fin S.rank → ℕ} (h0 : off = fun _ => 0) {inb} {p : S.Idx → Elt F e} {h1 h2}
    {kk : PUnit → Prog (TpuEff nD τ sig (Elt F) Λ₀ .tc) κ} {Q : κ → sProp 𝕄} :
    (owns (c : Thread nD τ) m fullShare X : sProp 𝕄)
      ⊢ iprop((owns (c : Thread nD τ) m fullShare p -∗ wp frame (wpE (defs₀ (F := F)) 𝒱₀ c none) Set.univ (kk ⟨⟩) Q)
          -∗ wp frame (wpE (defs₀ (F := F)) 𝒱₀ c none) Set.univ
              (.op (.store m (Rect.unit (s := S) off S.size inb) p Finset.univ h1 h2) kk) Q) :=
  storeRule c p (fun j => congrArg p (emb_unit_zero h0 inb j))
    (fun i hi => absurd (by rw [← Rect.map_emb_univ]; exact Finset.mem_map.mpr ⟨i, Finset.mem_univ _, emb_unit_zero h0 inb i⟩) hi)

end Whole

theorem off3_zero : (![0, 0, 0] : Fin 3 → ℕ) = fun _ => 0 := by decide
theorem off4_zero : (![0, 0, 0, 0] : Fin 4 → ℕ) = fun _ => 0 := by decide
theorem off2_zero : (![0, 0] : Fin 2 → ℕ) = fun _ => 0 := by decide
-- ==== Proof.Body.lean ====
/- The run of the first region's body at one grid point: what it leaves in the accumulator, and, at the last point, the whole
   exchange of the accumulators between the devices followed by the statistics written to the output window. Every statement is
   over an arbitrary float instance. -/
module

public import proofs.«01_k».proof.Proof.Rows

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## The slots of the exchange buffer, apart and together -/

theorem whole_slots (c : Dev nD) (f : Vec F S4x2x2x128 .f32) (l : List (Dev nD)) (hl : (Finset.univ : Finset (Dev nD)) = l.toFinset) (hn : l.Nodup) :
    (commM.view.loc (c : Thread nD τ) ↦[Finset.univ]{fullShare} f : sProp 𝕄) = bigSepL l fun d => slotPts c d fullShare f := by
  rw [← bigSep_eq_bigSepL_of_eq l hl hn]
  exact (congrArg (fun S : Finset S4x2x2x128.Idx => (commM.view.loc (c : Thread nD τ) ↦[S]{fullShare} f : sProp 𝕄)) slot_cover.symm).trans
    (pointsTo_biUnion (ℓ := commM.view.loc (c : Thread nD τ)) Finset.univ slotSet fun d _ e _ h => slot_disjoint h)

/-- The exchange buffer is the device's own slot and those named by the devices it signals. -/
theorem split_peers (c : Dev nD) (f : Vec F S4x2x2x128 .f32) :
    (commM.view.loc (c : Thread nD τ) ↦[Finset.univ]{fullShare} f : sProp 𝕄)
      = iprop(slotPts c c fullShare f ∗ slotPts c (peer c 0) fullShare f ∗ slotPts c (peer c 1) fullShare f ∗ slotPts c (peer c 2) fullShare f) :=
  whole_slots c f _ (univ_peers c) (nodup_peers c)
/-- The exchange buffer is the device's own slot and those of the devices it receives from. -/
theorem split_antes (c : Dev nD) (f : Vec F S4x2x2x128 .f32) :
    (commM.view.loc (c : Thread nD τ) ↦[Finset.univ]{fullShare} f : sProp 𝕄)
      = iprop(slotPts c c fullShare f ∗ slotPts c (ante c 0) fullShare f ∗ slotPts c (ante c 1) fullShare f ∗ slotPts c (ante c 2) fullShare f) :=
  whole_slots c f _ (univ_antes c) (nodup_antes c)

theorem peer0_eq : ∀ c : Dev nD, peer c 0 = ante c 2 := by decide
theorem peer1_eq : ∀ c : Dev nD, peer c 1 = ante c 1 := by decide
theorem peer2_eq : ∀ c : Dev nD, peer c 2 = ante c 0 := by decide

section OwnSlot

variable (c : Dev nD) {κ : Type}

/-- A load of a device's own slot reads it, and changes nothing. -/
theorem loadOwn {off : Fin 4 → ℕ} (h : off = ![c.val, 0, 0, 0]) {inb} {f : Vec F S4x2x2x128 .f32}
    {hl : commM.view.LoadsAt (Rect.unit (s := S4x2x2x128) off S1x2x2x128.size inb).toLoadRect}
    {kk : Vec F S1x2x2x128 .f32 → Prog (TpuEff nD τ sig (Elt F) Λ₀ .tc) κ} {Q : κ → sProp 𝕄} :
    (slotPts c c fullShare f : sProp 𝕄)
      ⊢ iprop((slotPts c c fullShare f
            -∗ wp frame (wpE (defs₀ (F := F)) 𝒱₀ c none) Set.univ (kk ((commM.access (slotRect c)).read (Elt F) f)) Q)
          -∗ wp frame (wpE (defs₀ (F := F)) 𝒱₀ c none) Set.univ
              (.op (.load commM (Rect.unit (s := S4x2x2x128) off S1x2x2x128.size inb).toLoadRect hl) kk) Q) := by
  subst h
  iintro H Hk
  iapply (wp_load_rect 𝒱₀ (c : Thread nD τ) none Set.univ (m := commM) (r := slotRect c) (S := slotSet c) (access_set c).le) $$ H
  iexact Hk

/-- A store of the accumulator to a device's own slot leaves it as the exchanged buffer has it. -/
theorem storeOwn (st : Dev nD → Vec F S2x2x128 .f32) {off : Fin 4 → ℕ} (h : off = ![c.val, 0, 0, 0]) {inb} {f : Vec F S4x2x2x128 .f32} {h1 h2}
    {kk : PUnit → Prog (TpuEff nD τ sig (Elt F) Λ₀ .tc) κ} {Q : κ → sProp 𝕄} :
    (slotPts c c fullShare f : sProp 𝕄)
      ⊢ iprop((slotPts c c fullShare (comm st) -∗ wp frame (wpE (defs₀ (F := F)) 𝒱₀ c none) Set.univ (kk ⟨⟩) Q)
          -∗ wp frame (wpE (defs₀ (F := F)) 𝒱₀ c none) Set.univ
              (.op (.store commM (Rect.unit (s := S4x2x2x128) off S1x2x2x128.size inb) (k0_pay9 (st c)) Finset.univ h1 h2) kk) Q) := by
  subst h
  iintro H Hk
  iapply (wp_store 𝒱₀ (c : Thread nD τ) none Set.univ (m := commM) (r := slotRect c) (S := slotSet c) (Mk := Finset.univ) (access_set c).le) $$ H
  iintro H
  iapply Hk
  iapply (Entails.of_eq (pointsTo_congr (store_comm st c f)))
  iexact H

/-- A load of a slot of the exchanged buffer reads the accumulator of the device of that name. -/
theorem loadSlot (st : Dev nD → Vec F S2x2x128 .f32) (d : Dev nD) {off : Fin 4 → ℕ} (h : off = ![d.val, 0, 0, 0]) {inb}
    {hl : commM.view.LoadsAt (Rect.unit (s := S4x2x2x128) off S1x2x2x128.size inb).toLoadRect}
    {kk : Vec F S1x2x2x128 .f32 → Prog (TpuEff nD τ sig (Elt F) Λ₀ .tc) κ} {Q : κ → sProp 𝕄} :
    (commM.view.loc (c : Thread nD τ) ↦[Finset.univ]{fullShare} (comm st) : sProp 𝕄)
      ⊢ iprop(((commM.view.loc (c : Thread nD τ) ↦[Finset.univ]{fullShare} (comm st))
            -∗ wp frame (wpE (defs₀ (F := F)) 𝒱₀ c none) Set.univ (kk (k0_pay9 (st d))) Q)
          -∗ wp frame (wpE (defs₀ (F := F)) 𝒱₀ c none) Set.univ
              (.op (.load commM (Rect.unit (s := S4x2x2x128) off S1x2x2x128.size inb).toLoadRect hl) kk) Q) := by
  subst h
  iintro H Hk
  iapply (wp_load_rect 𝒱₀ (c : Thread nD τ) none Set.univ (m := commM) (r := slotRect d) (S := Finset.univ) (Finset.subset_univ _)) $$ H
  iintro H
  rw [← load_comm st d]
  iapply Hk
  iexact H

end OwnSlot

/-! ## The exchange -/

/-- What device `c` holds for its `k`-th copy before the exchange: it stands at the start of the two semaphores the copy and its
    counterpart count on, and may pay the three duties of its `k`-th peer. -/
def copyGhost (c : Dev nD) (k : Fin 3) : sProp 𝕄 :=
  iprop(atPos ER (sendCell c k) 0 ∅ 0 ∗ reached ER (sendCell c k) 0 ∗ atPos ER (recvCell c (ante c k)) 0 ∅ 0 ∗ reached ER (recvCell c (ante c k)) 0
    ∗ dutyTok ER (barCell (peer c k)) 0 c ∗ dutyTok ER (sendCell c k) 0 c ∗ dutyTok ER (recvCell (peer c k) c) 0 c
    ∗ cred (tallyAt (recvCell c (ante c k)) () N))

/-- What device `c` holds before the exchange. -/
def ghost (st : Dev nD → Vec F S2x2x128 .f32) (c : Dev nD) : sProp 𝕄 :=
  iprop(∃ κ, records st κ ∗ levAts L lv ∗ atPos ER (barCell c) 0 ∅ 0 ∗ cred (tallyAt (barCell c) () 3)
    ∗ copyGhost c 0 ∗ copyGhost c 1 ∗ copyGhost c 2 ∗ semVal (recvCell c c) 0)

/-- The semaphores of device `c` after the exchange, all at zero. -/
def sems (c : Dev nD) : sProp 𝕄 :=
  iprop(semVal (barCell c) 0 ∗ (semVal (sendCell c 0) 0 ∗ semVal (sendCell c 1) 0 ∗ semVal (sendCell c 2) 0)
    ∗ semVal (recvCell c (ante c 0)) 0 ∗ semVal (recvCell c (ante c 1)) 0 ∗ semVal (recvCell c (ante c 2)) 0 ∗ semVal (recvCell c c) 0)

/-- The statistics the last point writes: the reciprocal deviation, and minus the mean times it. -/
def finalStats (st : Dev nD → Vec F S2x2x128 .f32) : Vec F S2x2x128 .f32 :=
  rows (k0_pay13 (k0_pay9 (st 0)) (k0_pay9 (st 1)) (k0_pay9 (st 2)) (k0_pay9 (st 3)))
    (k0_pay8 (k0_pay14 (k0_pay9 (st 0)) (k0_pay9 (st 1)) (k0_pay9 (st 2)) (k0_pay9 (st 3))))

/-- What the body runs at the last point after the accumulator is complete. -/
def exchange (i : grid0.Coords) (arg1 : Memref sig .tc .vmem S2x32x256x128 .f32) (harg1 : arg1.IsWhole)
    (arg2 : Memref sig .tc .vmem S2x2x128 .f32) (harg2 : arg2.IsWhole) (arg3 : Memref sig .tc .vmem S2x2x128 .f32) (harg3 : arg3.IsWhole)
    (arg4 : Memref sig .tc .vmem S4x2x2x128 .f32) (harg4 : arg4.IsWhole) (arg5 : DmaSems sig S3) (arg6 : DmaSems sig S4)
    (k0_h3 : k0_cond3 i = 1#1) : Prog (TpuEff nD τ sig (Elt F) Λ₀ .tc) PUnit := do
  let ⟨d14, v16, v17, v44, c4, v45⟩ : Σ' (d14 : Dev nD) (v16 : BitVec 32) (v17 : Sems sig S_) (v44 : BitVec 32) (c4 : BitVec 32), BitVec 1 ←
    k0_part1 i arg1 harg1 arg2 harg2 arg3 harg3 arg4 harg4 arg5 arg6 k0_h3
  k0_part2 i arg1 harg1 arg2 harg2 arg3 harg3 arg4 harg4 arg5 arg6 k0_h3 d14 v16 v17 v44 c4 v45
  let ⟨v106, v107, v108⟩ : Σ' (v106 : BitVec 32) (v107 : BitVec 32), BitVec 1 ←
    k0_part3 i arg1 harg1 arg2 harg2 arg3 harg3 arg4 harg4 arg5 arg6 k0_h3 d14 v16
  k0_part4 i arg1 harg1 arg2 harg2 arg3 harg3 arg4 harg4 arg5 arg6 k0_h3 d14 v16 v106 v107 v108
  let ⟨v173, c1⟩ : Σ' (v173 : BitVec 32), BitVec 32 ← k0_part5 i arg1 harg1 arg2 harg2 arg3 harg3 arg4 harg4 arg5 arg6 k0_h3 d14 v16
  k0_part6 i arg1 harg1 arg2 harg2 arg3 harg3 arg4 harg4 arg5 arg6 k0_h3 d14 v173 c1
  let v229 : FVec F S2x128 .f32 ← k0_part7 i arg1 harg1 arg2 harg2 arg3 harg3 arg4 harg4 arg5 arg6 k0_h3 d14
  Prog.lift (.store arg2 (Rect.unit (s := S2x2x128) ![1, 0, 0] S1x2x128.size inb_S2x2x128_S1x2x128_1_0_0) (k0_pay8 v229) Finset.univ (View.stores_vmem_bits_univ h_S1x2x128 rfl) (.inl rfl))
  pure ⟨⟩

section Run

variable (st : Dev nD → Vec F S2x2x128 .f32) (c : Dev nD)

theorem owe_sig2 : O₀ c = (owedSends c + owedSig c 2 + owedSig c 1) + owedSig c 0 := rfl
theorem owe_send0 : owedSends c = (owedSend c 2 + owedSend c 1) + owedSend c 0 := rfl
theorem owe_send2 : owedSend c 2 = 0 + owedSend c 2 := (zero_add _).symm

/-- The exchange from its ghost state: the exchange buffer ends with every device's accumulator in its slot, the output window
    with the statistics of them, and the semaphores at zero. -/
theorem exchange_run (i : grid0.Coords) {arg1 : Memref sig .tc .vmem S2x32x256x128 .f32} {harg1 : arg1.IsWhole}
    {arg2 : Memref sig .tc .vmem S2x2x128 .f32} {harg2 : arg2.IsWhole} (h3 : k0_cond3 i = 1#1) (W : Waits sig Unit)
    {X : Vec F S2x2x128 .f32} {Q : PUnit → sProp 𝕄} :
    iprop(ghost st c ∗ owes (c : Thread nD τ) (O₀ c) W ∗ (∃ f, commM.view.loc (c : Thread nD τ) ↦[Finset.univ]{fullShare} f)
        ∗ owns (c : Thread nD τ) accM fullShare (st c) ∗ owns (c : Thread nD τ) arg2 fullShare X)
      ⊢ iprop(((sems c ∗ (∃ W, owes (c : Thread nD τ) 0 W) ∗ (commM.view.loc (c : Thread nD τ) ↦[Finset.univ]{fullShare} (comm st))
            ∗ owns (c : Thread nD τ) accM fullShare (st c) ∗ owns (c : Thread nD τ) arg2 fullShare (finalStats st)) -∗ Q ⟨⟩)
          -∗ wp frame (wpE (defs₀ (F := F)) 𝒱₀ c none) Set.univ
              (exchange i arg1 harg1 arg2 harg2 accM (Memref.isWhole_whole _) commM (Memref.isWhole_whole _) cc0_scratch2 cc0_scratch3 h3) Q) := by
  unfold ghost copyGhost
  iintro ⟨⟨%κ, #HR, #Hlev, HatB, HcB, ⟨HatS0, #HrS0, HatR0, #HrR0, HtB0, HtS0, HtR0, HcR0⟩, ⟨HatS1, #HrS1, HatR1, #HrR1, HtB1, HtS1, HtR1, HcR1⟩,
    ⟨HatS2, #HrS2, HatR2, #HrR2, HtB2, HtS2, HtR2, HcR2⟩, Hown⟩, HO, ⟨%f, Hcomm⟩, Hacc, Hout⟩ Hk
  ihave Hsl := (Entails.of_eq (split_peers c f)) $$ Hcomm
  icases Hsl with ⟨Hc, Hp0, Hp1, Hp2⟩
  unfold exchange
  simp only [k0_part1_eq_skeleton]; unfold k0_part1_skel
  simp only [semSignalWord, semWaitWord, Prog.lift, Prog.bind_op, Prog.bind_ret, Prog.pure_eq_ret, Prog.bind_assoc, wp_deviceId]
  iapply (signalStep κ c 0 (dev1_eq c) (owe_sig2 c) rfl) $$ [HO HtB0 Hp0]
  · isplitr; · iexact HR
    isplitl [HO]; · iexact HO
    isplitl [HtB0]; · iexact HtB0
    isplitl [Hp0]; · iexists f; iexact Hp0
    rw [peer0_eq c]; iexact HrR2
  iintro HO
  iapply (signalStep κ c 1 (dev2_eq c) rfl rfl) $$ [HO HtB1 Hp1]
  · isplitr; · iexact HR
    isplitl [HO]; · iexact HO
    isplitl [HtB1]; · iexact HtB1
    isplitl [Hp1]; · iexists f; iexact Hp1
    rw [peer1_eq c]; iexact HrR1
  iintro HO
  simp only [k0_part2_eq_skeleton]; unfold k0_part2_skel
  simp only [semSignalWord, semWaitWord, Prog.lift, Prog.bind_op, Prog.bind_ret, Prog.pure_eq_ret, Prog.bind_assoc]
  iapply (signalStep κ c 2 (dev3_eq c) rfl rfl) $$ [HO HtB2 Hp2]
  · isplitr; · iexact HR
    isplitl [HO]; · iexact HO
    isplitl [HtB2]; · iexact HtB2
    isplitl [Hp2]; · iexists f; iexact Hp2
    rw [peer2_eq c]; iexact HrR0
  iintro HO
  iapply (barWaitStep κ c rfl) $$ [HO HcB HatB]
  · isplitr; · iexact HR
    isplitr; · iexact Hlev
    isplitl [HO]; · iexact HO
    isplitl [HcB]; · iexact HcB
    iexact HatB
  iintro ⟨HO, HatB, Hb0, Hb1, Hb2⟩
  iapply (loadWhole c off3_zero) $$ Hacc
  iintro Hacc
  iapply (loadOwn c (k0_off1_eq c)) $$ Hc
  iintro Hc
  iapply (storeOwn c st (k0_off1_eq c)) $$ Hc
  iintro Hc
  ihave Hth := ((Ring.pointsTo_thirds fullShare (comm st)).1) $$ Hc
  icases Hth with ⟨Hth0, Hth1, Hth2⟩
  simp only [k0_part3_eq_skeleton]; unfold k0_part3_skel
  simp only [semSignalWord, semWaitWord, Prog.lift, Prog.bind_op, Prog.bind_ret, Prog.pure_eq_ret, Prog.bind_assoc]
  iapply (sendStep κ c 0 (dev4_eq c) (slot_of_off c _ (k0_off3_eq c) _) (slot_of_off c _ (k0_off3_eq c) _)
      (send_of_off 0 _ rfl _) (recv_of_off c _ (k0_off2_eq c) _) (owe_send0 c)) $$ [HO Hth0 Hb0 HtS0 HtR0]
  · isplitr; · iexact HR
    isplitl [HO]; · iexact HO
    isplitl [Hth0]; · iexact Hth0
    isplitl [Hb0]; · iexact Hb0
    isplitl [HtS0]; · iexact HtS0
    isplitr; · iexact HrS0
    iexact HtR0
  iintro ⟨HcS0, HO⟩
  iapply (sendStep κ c 1 (dev5_eq c) (slot_of_off c _ (k0_off3_eq c) _) (slot_of_off c _ (k0_off3_eq c) _)
      (send_of_off 1 _ rfl _) (recv_of_off c _ (k0_off2_eq c) _) rfl) $$ [HO Hth1 Hb1 HtS1 HtR1]
  · isplitr; · iexact HR
    isplitl [HO]; · iexact HO
    isplitl [Hth1]; · iexact Hth1
    isplitl [Hb1]; · iexact Hb1
    isplitl [HtS1]; · iexact HtS1
    isplitr; · iexact HrS1
    iexact HtR1
  iintro ⟨HcS1, HO⟩
  simp only [k0_part4_eq_skeleton]; unfold k0_part4_skel
  simp only [semSignalWord, semWaitWord, Prog.lift, Prog.bind_op, Prog.bind_ret, Prog.pure_eq_ret, Prog.bind_assoc]
  iapply (sendStep κ c 2 (dev6_eq c) (slot_of_off c _ (k0_off3_eq c) _) (slot_of_off c _ (k0_off3_eq c) _)
      (send_of_off 2 _ rfl _) (recv_of_off c _ (k0_off2_eq c) _) (owe_send2 c)) $$ [HO Hth2 Hb2 HtS2 HtR2]
  · isplitr; · iexact HR
    isplitl [HO]; · iexact HO
    isplitl [Hth2]; · iexact Hth2
    isplitl [Hb2]; · iexact Hb2
    isplitl [HtS2]; · iexact HtS2
    isplitr; · iexact HrS2
    iexact HtR2
  iintro ⟨HcS2, HO⟩
  simp only [k0_part5_eq_skeleton]; unfold k0_part5_skel
  simp only [semSignalWord, semWaitWord, Prog.lift, Prog.bind_op, Prog.bind_ret, Prog.pure_eq_ret, Prog.bind_assoc]
  iapply (recvWaitStep κ c 0 (recv_of_off (ante c 0) (k0_off4 c 1#32) (off4_eq c 0) _)
      (slot_of_off (ante c 0) (k0_off5 c 1#32) (off5_eq c 0) _)) $$ [HO HcR0 HatR0]
  · isplitr; · iexact HR
    isplitl [HO]; · iexact HO
    isplitl [HcR0]; · iexact HcR0
    iexact HatR0
  iintro ⟨HO, HatR0, Hs0⟩
  iapply (recvWaitStep κ c 1 (recv_of_off (ante c 1) (k0_off4 c 2#32) (off4_eq c 1) _)
      (slot_of_off (ante c 1) (k0_off5 c 2#32) (off5_eq c 1) _)) $$ [HO HcR1 HatR1]
  · isplitr; · iexact HR
    isplitl [HO]; · iexact HO
    isplitl [HcR1]; · iexact HcR1
    iexact HatR1
  iintro ⟨HO, HatR1, Hs1⟩
  simp only [k0_part6_eq_skeleton]; unfold k0_part6_skel
  simp only [semSignalWord, semWaitWord, Prog.lift, Prog.bind_op, Prog.bind_ret, Prog.pure_eq_ret, Prog.bind_assoc]
  iapply (recvWaitStep κ c 2 (recv_of_off (ante c 2) (k0_off4 c 3#32) (off4_eq c 2) _)
      (slot_of_off (ante c 2) (k0_off5 c 3#32) (off5_eq c 2) _)) $$ [HO HcR2 HatR2]
  · isplitr; · iexact HR
    isplitl [HO]; · iexact HO
    isplitl [HcR2]; · iexact HcR2
    iexact HatR2
  iintro ⟨HO, HatR2, Hs2⟩
  iapply (sendWaitStep κ c 0 (send_of_off 0 _ rfl _) (slot_of_off c _ (k0_off3_eq c) _)) $$ [HO HcS0 HatS0]
  · isplitr; · iexact HR
    isplitl [HO]; · iexact HO
    isplitl [HcS0]; · iexact HcS0
    iexact HatS0
  iintro ⟨HO, HatS0, Hth0⟩
  iapply (sendWaitStep κ c 1 (send_of_off 1 _ rfl _) (slot_of_off c _ (k0_off3_eq c) _)) $$ [HO HcS1 HatS1]
  · isplitr; · iexact HR
    isplitl [HO]; · iexact HO
    isplitl [HcS1]; · iexact HcS1
    iexact HatS1
  iintro ⟨HO, HatS1, Hth1⟩
  simp only [k0_part7_eq_skeleton]; unfold k0_part7_skel
  simp only [semSignalWord, semWaitWord, Prog.lift, Prog.bind_op, Prog.bind_ret, Prog.pure_eq_ret, Prog.bind_assoc]
  iapply (sendWaitStep κ c 2 (send_of_off 2 _ rfl _) (slot_of_off c _ (k0_off3_eq c) _)) $$ [HO HcS2 HatS2]
  · isplitr; · iexact HR
    isplitl [HO]; · iexact HO
    isplitl [HcS2]; · iexact HcS2
    iexact HatS2
  iintro ⟨HO, HatS2, Hth2⟩
  ihave Hc := ((Ring.pointsTo_thirds (ℓ := commM.view.loc (c : Thread nD τ)) (I := slotSet c) fullShare (comm st)).2) $$ [Hth0 Hth1 Hth2]
  · isplitl [Hth0]; · iexact Hth0
    isplitl [Hth1]; · iexact Hth1
    iexact Hth2
  ihave Hcomm := (Entails.of_eq (split_antes c (comm st)).symm) $$ [Hc Hs0 Hs1 Hs2]
  · isplitl [Hc]; · iexact Hc
    isplitl [Hs0]; · iexact Hs0
    isplitl [Hs1]; · iexact Hs1
    iexact Hs2
  iapply (loadSlot c st 0 rfl) $$ Hcomm
  iintro Hcomm
  iapply (loadSlot c st 1 rfl) $$ Hcomm
  iintro Hcomm
  iapply (loadSlot c st 2 rfl) $$ Hcomm
  iintro Hcomm
  iapply (loadSlot c st 3 rfl) $$ Hcomm
  iintro Hcomm
  iapply (loadRow0 c) $$ Hout
  iintro Hout
  iapply (storeRow0 c) $$ Hout
  iintro Hout
  iapply (loadRow1 c) $$ Hout
  iintro Hout
  iapply (storeRow1 c) $$ Hout
  iintro Hout
  rw [set1_set0, wp_ret]
  imod (close st (κ (barCell c)) (barCell c)) $$ [HatB] with HatB
  · isplitr; · iapply (records_inv st κ _ (mem_bar c)); iexact HR
    iexact HatB
  imod (close st (κ (sendCell c 0)) (sendCell c 0)) $$ [HatS0] with HatS0
  · isplitr; · iapply (records_inv st κ _ (mem_send c 0)); iexact HR
    iexact HatS0
  imod (close st (κ (sendCell c 1)) (sendCell c 1)) $$ [HatS1] with HatS1
  · isplitr; · iapply (records_inv st κ _ (mem_send c 1)); iexact HR
    iexact HatS1
  imod (close st (κ (sendCell c 2)) (sendCell c 2)) $$ [HatS2] with HatS2
  · isplitr; · iapply (records_inv st κ _ (mem_send c 2)); iexact HR
    iexact HatS2
  imod (close st (κ (recvCell c (ante c 0))) (recvCell c (ante c 0))) $$ [HatR0] with HatR0
  · isplitr; · iapply (records_inv st κ _ (mem_recv c 0)); iexact HR
    iexact HatR0
  imod (close st (κ (recvCell c (ante c 1))) (recvCell c (ante c 1))) $$ [HatR1] with HatR1
  · isplitr; · iapply (records_inv st κ _ (mem_recv c 1)); iexact HR
    iexact HatR1
  imod (close st (κ (recvCell c (ante c 2))) (recvCell c (ante c 2))) $$ [HatR2] with HatR2
  · isplitr; · iapply (records_inv st κ _ (mem_recv c 2)); iexact HR
    iexact HatR2
  imodintro
  iapply Hk
  unfold sems finalStats
  isplitl [HatB HatS0 HatS1 HatS2 HatR0 HatR1 HatR2 Hown]
  · isplitl [HatB]; · iexact HatB
    isplitl [HatS0 HatS1 HatS2]
    · isplitl [HatS0]; · iexact HatS0
      isplitl [HatS1]; · iexact HatS1
      iexact HatS2
    isplitl [HatR0]; · iexact HatR0
    isplitl [HatR1]; · iexact HatR1
    isplitl [HatR2]; · iexact HatR2
    iexact Hown
  isplitl [HO]; · iexists _; iexact HO
  isplitl [Hcomm]; · iexact Hcomm
  isplitl [Hacc]; · iexact Hacc
  iexact Hout

end Run
-- ==== Proof.Points0.lean ====
/- The first region's body at a grid point: the first point sets the accumulator to its block's sums, the later points add theirs,
   and the last point also exchanges the accumulators; and the second region's body at a grid point. Every statement is over an
   arbitrary float instance. -/
module

public import proofs.«01_k».proof.Proof.Body

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-- The accumulator the first point leaves: its block's sums and sums of squares. -/
def accFirst (x : Vec F S2x32x256x128 .f32) : Vec F S2x2x128 .f32 := rows (k0_pay4 x) (k0_pay5 x)
/-- The accumulator a later point leaves, from the one it found. -/
def accStep (x : Vec F S2x32x256x128 .f32) (A : Vec F S2x2x128 .f32) : Vec F S2x2x128 .f32 :=
  rows (k0_pay6 x (rowOf 0 A)) (k0_pay7 x (rowOf 1 A))

/-- The body's two accumulating conditions and its last one, as the grid coordinate decides them. -/
theorem cond_first : ∀ n : Fin 8, (Scalar.cmpi .ne (Scalar.extui (Scalar.cmpi .eq (BitVec.ofNat 32 n.val) 0#32)) 0#32 = 1#1) ↔ n.val = 0 := by decide
theorem cond_later : ∀ n : Fin 8, (Scalar.cmpi .ne (Scalar.extui (Scalar.cmpi .sgt (BitVec.ofNat 32 n.val) 0#32)) 0#32 = 1#1) ↔ n.val ≠ 0 := by decide
theorem cond_last : ∀ n : Fin 8, (Scalar.cmpi .ne (Scalar.extui (Scalar.cmpi .eq (BitVec.ofNat 32 n.val) 7#32)) 0#32 = 1#1) ↔ n.val = 7 := by decide

section Points

variable (c : Dev nD) (i : grid0.Coords) {arg1 : Memref sig .tc .vmem S2x32x256x128 .f32} {harg1 : arg1.IsWhole}
  {arg2 : Memref sig .tc .vmem S2x2x128 .f32} {harg2 : arg2.IsWhole} {q : PosShare TreeShare} {x : Vec F S2x32x256x128 .f32}

/-- The first point. -/
theorem run_first (hi : (i 0).val = 0) {A : Vec F S2x2x128 .f32} {Q : PUnit → sProp 𝕄} :
    iprop(owns (c : Thread nD τ) arg1 q x ∗ owns (c : Thread nD τ) accM fullShare A)
      ⊢ iprop(((owns (c : Thread nD τ) arg1 q x ∗ owns (c : Thread nD τ) accM fullShare (accFirst x)) -∗ Q ⟨⟩)
          -∗ wp frame (wpE (defs₀ (F := F)) 𝒱₀ c none) Set.univ
            (cc0_stats_body (F := F) i arg1 harg1 arg2 harg2 accM (Memref.isWhole_whole _) commM (Memref.isWhole_whole _) cc0_scratch2 cc0_scratch3) Q) := by
  have h1 := (cond_first (i 0)).mpr hi
  have h2 := mt (cond_later (i 0)).mp (not_not.mpr hi)
  have h3 : ¬ k0_cond3 i = 1#1 := mt (cond_last (i 0)).mp (by rw [hi]; decide)
  iintro ⟨Hx, HA⟩ Hk
  simp only [cc0_stats_body_eq_skeleton]; unfold cc0_stats_body_skel
  simp only [dif_pos h1, dif_neg h2, dif_neg h3, Prog.lift, Prog.bind_op, Prog.bind_ret, Prog.pure_eq_ret, Prog.bind_assoc]
  iapply (loadWhole c off4_zero) $$ Hx
  iintro Hx
  iapply (loadRow0 c) $$ HA
  iintro HA
  iapply (storeRow0 c) $$ HA
  iintro HA
  iapply (loadRow1 c) $$ HA
  iintro HA
  iapply (storeRow1 c) $$ HA
  iintro HA
  rw [set1_set0, wp_ret]
  imodintro
  iapply Hk
  isplitl [Hx]; · iexact Hx
  iexact HA

/-- A later point that is not the last. -/
theorem run_later (hi : (i 0).val ≠ 0) (hi7 : (i 0).val ≠ 7) {A : Vec F S2x2x128 .f32} {Q : PUnit → sProp 𝕄} :
    iprop(owns (c : Thread nD τ) arg1 q x ∗ owns (c : Thread nD τ) accM fullShare A)
      ⊢ iprop(((owns (c : Thread nD τ) arg1 q x ∗ owns (c : Thread nD τ) accM fullShare (accStep x A)) -∗ Q ⟨⟩)
          -∗ wp frame (wpE (defs₀ (F := F)) 𝒱₀ c none) Set.univ
            (cc0_stats_body (F := F) i arg1 harg1 arg2 harg2 accM (Memref.isWhole_whole _) commM (Memref.isWhole_whole _) cc0_scratch2 cc0_scratch3) Q) := by
  have h1 := mt (cond_first (i 0)).mp hi
  have h2 := (cond_later (i 0)).mpr hi
  have h3 : ¬ k0_cond3 i = 1#1 := mt (cond_last (i 0)).mp hi7
  iintro ⟨Hx, HA⟩ Hk
  simp only [cc0_stats_body_eq_skeleton]; unfold cc0_stats_body_skel
  simp only [dif_neg h1, dif_pos h2, dif_neg h3, Prog.lift, Prog.bind_op, Prog.bind_ret, Prog.pure_eq_ret, Prog.bind_assoc]
  iapply (loadWhole c off4_zero) $$ Hx
  iintro Hx
  iapply (loadRow0 c) $$ HA
  iintro HA
  iapply (loadRow0 c) $$ HA
  iintro HA
  iapply (storeRow0 c) $$ HA
  iintro HA
  iapply (loadRow1 c) $$ HA
  iintro HA
  iapply (loadRow1 c) $$ HA
  iintro HA
  iapply (storeRow1 c) $$ HA
  iintro HA
  rw [set1_set0, rowOf_set01, wp_ret]
  imodintro
  iapply Hk
  isplitl [Hx]; · iexact Hx
  iexact HA

/-- The last point: the accumulator is completed to `st c`, and exchanged. -/
theorem run_last (hi7 : (i 0).val = 7) (st : Dev nD → Vec F S2x2x128 .f32) (W : Waits sig Unit) {A X : Vec F S2x2x128 .f32} (hst : accStep x A = st c)
    {Q : PUnit → sProp 𝕄} :
    iprop(owns (c : Thread nD τ) arg1 q x ∗ owns (c : Thread nD τ) accM fullShare A ∗ ghost st c ∗ owes (c : Thread nD τ) (O₀ c) W
        ∗ (∃ f, commM.view.loc (c : Thread nD τ) ↦[Finset.univ]{fullShare} f) ∗ owns (c : Thread nD τ) arg2 fullShare X)
      ⊢ iprop(((owns (c : Thread nD τ) arg1 q x ∗ sems c ∗ (∃ W, owes (c : Thread nD τ) 0 W)
              ∗ (commM.view.loc (c : Thread nD τ) ↦[Finset.univ]{fullShare} (comm st))
              ∗ owns (c : Thread nD τ) accM fullShare (st c) ∗ owns (c : Thread nD τ) arg2 fullShare (finalStats st)) -∗ Q ⟨⟩)
          -∗ wp frame (wpE (defs₀ (F := F)) 𝒱₀ c none) Set.univ
            (cc0_stats_body (F := F) i arg1 harg1 arg2 harg2 accM (Memref.isWhole_whole _) commM (Memref.isWhole_whole _) cc0_scratch2 cc0_scratch3) Q) := by
  have hi : (i 0).val ≠ 0 := by rw [hi7]; decide
  have h1 := mt (cond_first (i 0)).mp hi
  have h2 := (cond_later (i 0)).mpr hi
  have h3 : k0_cond3 i = 1#1 := (cond_last (i 0)).mpr hi7
  iintro ⟨Hx, HA, Hg, HO, Hc, Hout⟩ Hk
  simp only [cc0_stats_body_eq_skeleton]; unfold cc0_stats_body_skel
  simp only [dif_neg h1, dif_pos h2, dif_pos h3, Prog.lift, Prog.bind_op, Prog.bind_ret, Prog.pure_eq_ret]
  iapply (loadWhole c off4_zero) $$ Hx
  iintro Hx
  iapply (loadRow0 c) $$ HA
  iintro HA
  iapply (loadRow0 c) $$ HA
  iintro HA
  iapply (storeRow0 c) $$ HA
  iintro HA
  iapply (loadRow1 c) $$ HA
  iintro HA
  iapply (loadRow1 c) $$ HA
  iintro HA
  iapply (storeRow1 c) $$ HA
  iintro HA
  rw [set1_set0, rowOf_set01, show rows (k0_pay6 x (rowOf 0 A)) (k0_pay7 x (rowOf 1 A)) = st c from hst]
  have hx := exchange_run st c i (harg1 := harg1) (harg2 := harg2) h3 W (X := X) (Q := Q)
  unfold exchange at hx
  simp only [Prog.lift, Prog.bind_op, Prog.bind_ret, Prog.pure_eq_ret] at hx
  iapply hx $$ [Hg HO Hc HA Hout]
  · isplitl [Hg]; · iexact Hg
    isplitl [HO]; · iexact HO
    isplitl [Hc]; · iexact Hc
    isplitl [HA]; · iexact HA
    iexact Hout
  iintro H
  iapply Hk
  isplitl [Hx]; · iexact Hx
  iexact H

end Points

/-- The second region's body: the output window's block is the kernel's function of the input block, the two rows of the
    statistics and the weight. -/
theorem run_apply (c : Dev nD) (i : grid1.Coords) {arg1 : Memref sig .tc .vmem S2x32x256x128 .f32} {harg1 : arg1.IsWhole}
    {arg2 : Memref sig .tc .vmem S2x2x128 .f32} {harg2 : arg2.IsWhole} {arg3 : Memref sig .tc .vmem S128x256 .f32} {harg3 : arg3.IsWhole}
    {arg4 : Memref sig .tc .vmem S2x32x256x256 .bf16} {harg4 : arg4.IsWhole} {q1 q2 q3 : PosShare TreeShare}
    {x : Vec F S2x32x256x128 .f32} {s : Vec F S2x2x128 .f32} {wp_ : Vec F S128x256 .f32} {X : Vec F S2x32x256x256 .bf16} {Q : PUnit → sProp 𝕄} :
    iprop(owns (c : Thread nD τ) arg1 q1 x ∗ owns (c : Thread nD τ) arg2 q2 s ∗ owns (c : Thread nD τ) arg3 q3 wp_ ∗ owns (c : Thread nD τ) arg4 fullShare X)
      ⊢ iprop(((owns (c : Thread nD τ) arg1 q1 x ∗ owns (c : Thread nD τ) arg2 q2 s ∗ owns (c : Thread nD τ) arg3 q3 wp_
              ∗ owns (c : Thread nD τ) arg4 fullShare (k1_pay1 x (rowOf 0 s) (rowOf 1 s) wp_)) -∗ Q ⟨⟩)
          -∗ wp frame (wpE (defs₀ (F := F)) 𝒱₀ c none) Set.univ (cc1_apply_body (F := F) i arg1 harg1 arg2 harg2 arg3 harg3 arg4 harg4) Q) := by
  iintro ⟨Hx, Hs, Hw, Ho⟩ Hk
  simp only [cc1_apply_body_eq_skeleton]; unfold cc1_apply_body_skel
  simp only [Prog.lift, Prog.bind_op, Prog.bind_ret, Prog.pure_eq_ret, Prog.bind_assoc]
  iapply (loadWhole c off4_zero) $$ Hx
  iintro Hx
  iapply (loadRow0 c) $$ Hs
  iintro Hs
  iapply (loadRow1 c) $$ Hs
  iintro Hs
  iapply (loadWhole c off2_zero) $$ Hw
  iintro Hw
  iapply (loadWhole c off4_zero) $$ Ho
  iintro Ho
  iapply (storeWhole c off4_zero) $$ Ho
  iintro Ho
  rw [wp_ret]
  imodintro
  iapply Hk
  isplitl [Hx]; · iexact Hx
  isplitl [Hs]; · iexact Hs
  isplitl [Hw]; · iexact Hw
  iexact Ho
-- ==== Proof.Data.lean ====
/- What the two regions leave: the accumulators of the devices after each grid point, the statistics, and the proof data of the
   two pipelines. Every statement is over an arbitrary float instance and the launch memory `m`. -/
module

public import proofs.«01_k».proof.Proof.Points0
public import proofs.«01_k».proof.Proof.Gen.KernelIdeal.Regions
public import proofs.«01_k».proof.Proof.Gen.KernelIdeal.Points
public import Idealize.ShloMosaic.Lib.Pipeline.RegionTalk
public import Idealize.ShloMosaic.Lib.Pipeline.RegionArraysS
public import Idealize.ShloMosaic.Lib.Pipeline.Frame
public import Idealize.ShloMosaic.Lib.Pipeline.FrameBody

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## The accumulators -/

/-- The block of device `c`'s input the first region reads at point `t`. -/
def xblk (c : Dev nD) (t : Fin cfg0.N) : Vec F S2x32x256x128 .f32 :=
  ((cfg0.win 0).blk t).view.read (Elt F) (m ((c : Thread nD τ).loc main_arg0))

/-- Device `c`'s accumulator after point `n`. -/
def acc (c : Dev nD) : (n : ℕ) → n < cfg0.N → Vec F S2x2x128 .f32
  | 0, h => accFirst (xblk m c ⟨0, h⟩)
  | n + 1, h => accStep (xblk m c ⟨n + 1, h⟩) (acc c n (Nat.lt_of_succ_lt h))

theorem lt7 : 7 < cfg0.N := by rw [show cfg0.N = 8 from N_0]; decide

/-- Device `c`'s accumulator when it is exchanged. -/
def stats (c : Dev nD) : Vec F S2x2x128 .f32 := acc m c 7 lt7

/-! ## Scoped buffers -/

/-- The whole buffer `r` of device `c`, at some contents. -/
def anyBuf (c : Dev nD) (r : Ref sig .tc) : sProp 𝕄 := iprop(∃ f : Buf (Elt F) ((c : Thread nD τ).loc r), ((c : Thread nD τ).loc r) ↦{fullShare} f)

/-- The scoped buffers the first region neither stages nor addresses. -/
def others (c : Dev nD) : sProp 𝕄 :=
  iprop(anyBuf (F := F) c cc1_stg0_0 ∗ anyBuf (F := F) c cc1_stg0_1 ∗ anyBuf (F := F) c cc1_stg1_0 ∗ anyBuf (F := F) c cc1_stg2_0
    ∗ anyBuf (F := F) c cc1_stg3_0 ∗ anyBuf (F := F) c cc1_stg3_1)

theorem rest0_eq (c : Dev nD) :
    (Pipeline.scopedRest (Ix := Unit) (Name := ℕ) (U := UU) (Lvl := ℕ) (Val := Elt F) spec0 c : sProp 𝕄)
      = iprop(anyBuf (F := F) c cc0_scratch0 ∗ anyBuf (F := F) c cc0_scratch1 ∗ others (F := F) c) :=
  scopedRest0_eq c

theorem acc_of_any (c : Dev nD) : (anyBuf (F := F) c cc0_scratch0 : sProp 𝕄) ⊢ iprop(∃ A, owns (c : Thread nD τ) accM fullShare A) := by
  unfold anyBuf owns
  iintro ⟨%f, H⟩
  iexists (accM.view.read (Elt F) f), f
  isplitr; · ipureintro; rfl
  rw [show accM.view.set = Finset.univ from View.set_whole _]
  iexact H

theorem any_of_acc (c : Dev nD) (A : Vec F S2x2x128 .f32) : (owns (c : Thread nD τ) accM fullShare A : sProp 𝕄) ⊢ anyBuf (F := F) c cc0_scratch0 := by
  unfold anyBuf owns
  rw [show accM.view.set = Finset.univ from View.set_whole _]
  iintro ⟨%f, -, H⟩
  iexists f
  iexact H

theorem comm_of_any (c : Dev nD) : (anyBuf (F := F) c cc0_scratch1 : sProp 𝕄)
    ⊢ iprop(∃ f : Vec F S4x2x2x128 .f32, commM.view.loc (c : Thread nD τ) ↦[Finset.univ]{fullShare} f) := .rfl

/-! ## The proof data of the first region -/

/-- The accumulator before point `n`: anything at first. -/
def accAt (c : Dev nD) : (n : ℕ) → n ≤ cfg0.N → sProp 𝕄
  | 0, _ => iprop(∃ A, owns (c : Thread nD τ) accM fullShare A)
  | n + 1, h => owns (c : Thread nD τ) accM fullShare (acc m c n h)

/-- What the body keeps before a point: the accumulator, the exchange buffer, the ghost state of the exchange. -/
def before0 (c : Dev nD) (n : ℕ) (h : n ≤ cfg0.N) : sProp 𝕄 :=
  iprop(accAt m c n h ∗ anyBuf (F := F) c cc0_scratch1 ∗ others (F := F) c ∗ ghost (stats m) c ∗ ∃ r, prngReg c r)
/-- What it leaves after the last point: the two buffers, and every semaphore of the exchange at zero. -/
def after0 (c : Dev nD) : sProp 𝕄 :=
  iprop(anyBuf (F := F) c cc0_scratch0 ∗ anyBuf (F := F) c cc0_scratch1 ∗ others (F := F) c ∗ sems c ∗ ∃ r, prngReg c r)

def dat0 (c : Dev nD) : Dat τ (Elt F) Unit ℕ UU ℕ cfg0 c where
  A w := V0 m c (Proc.devRef .tc (Pipeline.arrRef cfg0.spec w))
  after w t := match w with
    | ⟨0, _⟩ => xblk m c t
    | ⟨1, _⟩ => finalStats (stats m)
    | ⟨_ + 2, h⟩ => absurd h (Nat.not_lt.2 (Nat.le_add_left _ _))
  Φ t := if t.val = 8 then after0 (F := F) c else before0 m c t.val (Nat.le_of_lt_succ t.isLt)
  q _ := fullShare
  owed t := if t.val = 8 then 0 else O₀ c

/-- The contents of the unscoped buffers after the first region. -/
def U1 (c : Dev nD) : Valuation τ sig (Elt F) := Pipeline.afterRegion (dat0 m c) (V0 m c)

/-! ## The proof data of the second region -/

/-- The statistics as the second region reads them: the block of the statistics' array, which is the whole of it. -/
def sblk (c : Dev nD) (t : Fin cfg1.N) : Vec F S2x2x128 .f32 :=
  ((cfg1.win 1).blk t).view.read (Elt F) (U1 m c (Proc.devRef .tc main_v1))
/-- The weight as the second region reads it. -/
def wblk (c : Dev nD) (t : Fin cfg1.N) : Vec F S128x256 .f32 :=
  ((cfg1.win 2).blk t).view.read (Elt F) (U1 m c (Proc.devRef .tc main_arg1))
/-- The block of the input the second region reads at point `t`. -/
def yblk (c : Dev nD) (t : Fin cfg1.N) : Vec F S2x32x256x128 .f32 :=
  ((cfg1.win 0).blk t).view.read (Elt F) (U1 m c (Proc.devRef .tc main_arg0))
/-- The block of the result it writes there. -/
def oblk (c : Dev nD) (t : Fin cfg1.N) : Vec F S2x32x256x256 .bf16 :=
  k1_pay1 (yblk m c t) (rowOf 0 (sblk m c t)) (rowOf 1 (sblk m c t)) (wblk m c t)

def dat1 (c : Dev nD) : Dat τ (Elt F) Unit ℕ UU ℕ cfg1 c where
  A w := U1 m c (Proc.devRef .tc (Pipeline.arrRef cfg1.spec w))
  after w t := match w with
    | ⟨0, _⟩ => yblk m c t
    | ⟨1, _⟩ => sblk m c t
    | ⟨2, _⟩ => wblk m c t
    | ⟨3, _⟩ => oblk m c t
    | ⟨_ + 4, h⟩ => absurd h (Nat.not_lt.2 (Nat.le_add_left _ _))
  Φ _ := Pipeline.scopedRest (Ix := Unit) (Name := ℕ) (U := UU) (Lvl := ℕ) (Val := Elt F) spec1 c
  q _ := fullShare
  owed _ := 0

/-- The contents of the unscoped buffers after the second region. -/
def U2 (c : Dev nD) : Valuation τ sig (Elt F) := Pipeline.afterRegion (dat1 m c) (U1 m c)

def pdats : (p : Fin 2) → (c : Dev nD) → Dat τ (Elt F) Unit ℕ UU ℕ (cfgs p) c
  | ⟨0, _⟩ => dat0 m
  | ⟨1, _⟩ => dat1 m

/-! ## What a core owes between points -/

theorem owesAt_of {cfg : Pipeline.Cfg sig Λ₀} {c : Dev nD} (dat : Dat τ (Elt F) Unit ℕ UU ℕ cfg c) (t : Fin (cfg.N + 1))
    {O : CellTallies nD τ sig Unit} (hO : dat.owed t = O) (hr : dat.recorded t = Set.univ) :
    iprop(∃ W, owes (c : Thread nD τ) O W) ⊢ (dat.owesAt () t : sProp 𝕄) := by
  unfold Dat.owesAt Pipeline.owesWithin Dat.bound
  rw [hO, hr]
  iintro ⟨%W, H⟩
  iexists W
  isplitr; · ipureintro; exact fun _ _ => Or.inl trivial
  iexact H
theorem of_owesAt {cfg : Pipeline.Cfg sig Λ₀} {c : Dev nD} (dat : Dat τ (Elt F) Unit ℕ UU ℕ cfg c) (t : Fin (cfg.N + 1))
    {O : CellTallies nD τ sig Unit} (hO : dat.owed t = O) :
    (dat.owesAt () t : sProp 𝕄) ⊢ iprop(∃ W, owes (c : Thread nD τ) O W) := by
  unfold Dat.owesAt Pipeline.owesWithin
  rw [hO]
  iintro ⟨%W, -, H⟩
  iexists W
  iexact H

/-! ## The first region's body obligation -/

theorem coord0 (t : Fin grid0.N) : (grid0.coords t 0).val = t.val := by
  rcases fin_N0 t with rfl | rfl | rfl | rfl | rfl | rfl | rfl | rfl <;> rfl

theorem before0_0 (c : Dev nD) (t : Fin cfg0.N) (d) : (dat0 m c).before 0 t d = xblk m c t := by
  unfold Dat.before
  rw [if_pos (fetch0_0 t)]
  rfl

theorem idle_of_ne (t : Fin cfg0.N) (h : t.val ≠ 7) : cfg0.idle 1 (cfg0.grid.coords t) = true := by
  have hc : ¬ k0_cond3 (grid0.coords t) = 1#1 := mt (cond_last (grid0.coords t 0)).mp (by rw [coord0]; exact h)
  show (!(k0_cond3 (grid0.coords t) == 1#1)) = true
  rw [Bool.not_eq_true', beq_eq_false_iff_ne]; exact hc
theorem live_of_eq (t : Fin cfg0.N) (h : t.val = 7) : cfg0.idle 1 (cfg0.grid.coords t) = false := by
  have hc : k0_cond3 (grid0.coords t) = 1#1 := (cond_last (grid0.coords t 0)).mpr (by rw [coord0]; exact h)
  show (!(k0_cond3 (grid0.coords t) == 1#1)) = false
  rw [hc]; rfl
theorem flush_of_ne (t : Fin cfg0.N) (h : t.val ≠ 7) : (cfg0.win 1).flush t = false := by
  rw [← Bool.not_eq_true, flush0_1]
  have := t.isLt; have : cfg0.N = 8 := N_0; omega

/-- The body at a point that is not the last: the accumulator goes on by one block. -/
theorem run_point (c : Dev nD) (t : Fin cfg0.N) (h7 : t.val ≠ 7) {Q : PUnit → sProp 𝕄} :
    iprop(owns (c : Thread nD τ) (st0_0 t) fullShare (xblk m c t) ∗ accAt m c t.val (Nat.le_of_lt t.isLt))
      ⊢ iprop(((owns (c : Thread nD τ) (st0_0 t) fullShare (xblk m c t) ∗ accAt m c (t.val + 1) t.isLt) -∗ Q ⟨⟩)
          -∗ wp frame (wpE (defs₀ (F := F)) 𝒱₀ c none) Set.univ (bodyAt0 t) Q) := by
  obtain ⟨n, hn⟩ := t
  cases n with
  | zero =>
    show iprop(owns (c : Thread nD τ) (st0_0 ⟨0, hn⟩) fullShare (xblk m c ⟨0, hn⟩) ∗ ∃ A, owns (c : Thread nD τ) accM fullShare A) ⊢ _
    iintro ⟨Hx, ⟨%A, HA⟩⟩
    iapply (run_first c (grid0.coords ⟨0, hn⟩) (coord0 _) (x := xblk m c ⟨0, hn⟩) (A := A))
    isplitl [Hx]; · iexact Hx
    iexact HA
  | succ n =>
    have h := run_later c (grid0.coords ⟨n + 1, hn⟩) (by rw [coord0]; exact Nat.succ_ne_zero n) (by rw [coord0]; exact h7)
      (arg1 := st0_0 ⟨n + 1, hn⟩) (harg1 := hstage0_0 ((cfg0.slots ⟨n + 1, hn⟩ 0).cast nbuf0_0))
      (arg2 := st0_1 ⟨n + 1, hn⟩) (harg2 := hstage0_1 ((cfg0.slots ⟨n + 1, hn⟩ 1).cast nbuf0_1))
      (q := fullShare) (x := xblk m c ⟨n + 1, hn⟩) (A := acc m c n (Nat.lt_of_succ_lt hn)) (Q := Q)
    exact h

theorem body0 (c : Dev nD) : BodyObligation (dat0 m c) (defs₀ (F := F)) 𝒱₀ () Set.univ := fun t => by
  have hN : cfg0.N = 8 := N_0
  have ht := t.isLt
  rw [bigSep_W0, bigSep_W0]
  show iprop((dat0 m c).Φ t.castSucc ∗ (dat0 m c).owesAt () t.castSucc
      ∗ (∃ d, owns (c : Thread nD τ) (st0_0 t) fullShare ((dat0 m c).before 0 t d)) ∗ (∃ d, owns (c : Thread nD τ) (st0_1 t) fullShare ((dat0 m c).before 1 t d)))
    ⊢ wp frame (wpE (defs₀ (F := F)) 𝒱₀ c none) Set.univ (bodyAt0 t) fun _ =>
      iprop((dat0 m c).Φ t.succ ∗ (dat0 m c).owesAt () t.succ ∗ owns (c : Thread nD τ) (st0_0 t) fullShare (xblk m c t) ∗ (dat0 m c).leavesExact 1 t)
  have hΦ : (dat0 m c).Φ t.castSucc = before0 m c t.val (Nat.le_of_lt t.isLt) :=
    if_neg (by rw [Fin.val_castSucc]; omega)
  have hO : (dat0 m c).owed t.castSucc = O₀ c := if_neg (by rw [Fin.val_castSucc]; omega)
  rw [hΦ]
  unfold before0
  by_cases h7 : t.val = 7
  · have hΦ' : (dat0 m c).Φ t.succ = after0 (F := F) c := if_pos (by rw [Fin.val_succ]; omega)
    have hO' : (dat0 m c).owed t.succ = 0 := if_pos (by rw [Fin.val_succ]; omega)
    rw [hΦ', show (dat0 m c).leavesExact 1 t = owns (c : Thread nD τ) (st0_1 t) fullShare (finalStats (stats m)) from by
      unfold Dat.leavesExact; rw [live_of_eq t h7]; rfl]
    obtain rfl : t = ⟨7, lt7⟩ := Fin.ext h7
    iintro ⟨⟨HA, HC, Hoth, Hg, Hp⟩, HO, ⟨%d, Hx⟩, ⟨%d', Ho⟩⟩
    rw [before0_0]
    ihave HO := (of_owesAt (dat0 m c) _ hO) $$ HO
    icases HO with ⟨%W, HO⟩
    iapply (run_last c (grid0.coords ⟨7, lt7⟩) (coord0 _) (stats m) W (x := xblk m c ⟨7, lt7⟩) (A := acc m c 6 (Nat.lt_of_succ_lt lt7)) rfl) $$ [HA HC Hg HO Hx Ho]
    · isplitl [Hx]; · iexact Hx
      isplitl [HA]
      · iapply (show (accAt m c 7 (Nat.le_of_lt lt7) : sProp 𝕄) ⊢ owns (c : Thread nD τ) accM fullShare (acc m c 6 (Nat.lt_of_succ_lt lt7)) from .rfl) $$ HA
      isplitl [Hg]; · iexact Hg
      isplitl [HO]; · iexact HO
      isplitl [HC]; · iapply (comm_of_any c) $$ HC
      iexact Ho
    iintro ⟨Hx, Hs, HO, HC, HA, Ho⟩
    unfold after0
    isplitl [HA HC Hoth Hs Hp]
    · isplitl [HA]; · iapply (any_of_acc c _) $$ HA
      isplitl [HC]; · unfold anyBuf; iexists (comm (stats m)); iexact HC
      isplitl [Hoth]; · iexact Hoth
      isplitl [Hs]; · iexact Hs
      iexact Hp
    isplitl [HO]; · iapply (owesAt_of (dat0 m c) _ hO' rfl) $$ HO
    isplitl [Hx]; · iexact Hx
    iexact Ho
  · have hΦ' : (dat0 m c).Φ t.succ = before0 m c (t.val + 1) t.isLt := if_neg (by rw [Fin.val_succ]; omega)
    have hO' : (dat0 m c).owed t.succ = O₀ c := if_neg (by rw [Fin.val_succ]; omega)
    rw [hΦ', Dat.leavesExact_idle (dat0 m c) 1 t (idle_of_ne t h7) (flush_of_ne t h7)]
    unfold before0
    iintro ⟨⟨HA, HC, Hoth, Hg, Hp⟩, HO, ⟨%d, Hx⟩, Ho⟩
    rw [before0_0]
    ihave HO := (of_owesAt (dat0 m c) _ hO) $$ HO
    ihave HO := (owesAt_of (dat0 m c) t.succ hO' rfl) $$ HO
    iapply (run_point m c t h7) $$ [Hx HA]
    · isplitl [Hx]; · iexact Hx
      iexact HA
    iintro ⟨Hx, HA⟩
    isplitl [HA HC Hoth Hg Hp]
    · isplitl [HA]; · iexact HA
      isplitl [HC]; · iexact HC
      isplitl [Hoth]; · iexact Hoth
      isplitl [Hg]; · iexact Hg
      iexact Hp
    isplitl [HO]; · iexact HO
    isplitl [Hx]; · iexact Hx
    iexact Ho

/-! ## The second region's body obligation -/

theorem before1_0 (c : Dev nD) (t : Fin cfg1.N) (d) : (dat1 m c).before 0 t d = yblk m c t := by
  unfold Dat.before
  rw [if_pos (fetch1_0 t)]
  rfl
theorem before1_1 (c : Dev nD) (t : Fin cfg1.N) (d) : (dat1 m c).before 1 t d = sblk m c t :=
  (Dat.before_in_eq_fetched (dat1 m c) 1 rfl (fun _ => rfl) (fun _ _ _ => rfl) (fun _ => rfl) t d).trans rfl
theorem before1_2 (c : Dev nD) (t : Fin cfg1.N) (d) : (dat1 m c).before 2 t d = wblk m c t :=
  (Dat.before_in_eq_fetched (dat1 m c) 2 rfl (fun _ => rfl) (fun _ _ _ => rfl) (fun _ => rfl) t d).trans rfl

theorem body1 (c : Dev nD) : BodyObligation (dat1 m c) (defs₀ (F := F)) 𝒱₀ () Set.univ := fun t => by
  rw [bigSep_W1, bigSep_W1]
  show iprop((dat1 m c).Φ t.castSucc ∗ (dat1 m c).owesAt () t.castSucc
      ∗ (∃ d, owns (c : Thread nD τ) (st1_0 t) fullShare ((dat1 m c).before 0 t d)) ∗ (∃ d, owns (c : Thread nD τ) (st1_1 t) fullShare ((dat1 m c).before 1 t d))
      ∗ (∃ d, owns (c : Thread nD τ) (st1_2 t) fullShare ((dat1 m c).before 2 t d)) ∗ (∃ d, owns (c : Thread nD τ) (st1_3 t) fullShare ((dat1 m c).before 3 t d)))
    ⊢ wp frame (wpE (defs₀ (F := F)) 𝒱₀ c none) Set.univ (bodyAt1 t) fun _ =>
      iprop((dat1 m c).Φ t.castSucc ∗ (dat1 m c).owesAt () t.castSucc ∗ owns (c : Thread nD τ) (st1_0 t) fullShare (yblk m c t)
        ∗ owns (c : Thread nD τ) (st1_1 t) fullShare (sblk m c t) ∗ owns (c : Thread nD τ) (st1_2 t) fullShare (wblk m c t)
        ∗ owns (c : Thread nD τ) (st1_3 t) fullShare (oblk m c t))
  iintro ⟨HΦ, HO, ⟨%d0, Hx⟩, ⟨%d1, Hs⟩, ⟨%d2, Hw⟩, ⟨%d3, Ho⟩⟩
  rw [before1_0, before1_1, before1_2]
  iapply (run_apply c (grid1.coords t) (x := yblk m c t) (s := sblk m c t) (wp_ := wblk m c t)) $$ [Hx Hs Hw Ho]
  · isplitl [Hx]; · iexact Hx
    isplitl [Hs]; · iexact Hs
    isplitl [Hw]; · iexact Hw
    iexact Ho
  iintro ⟨Hx, Hs, Hw, Ho⟩
  isplitl [HΦ]; · iexact HΦ
  isplitl [HO]; · iexact HO
  isplitl [Hx]; · iexact Hx
  isplitl [Hs]; · iexact Hs
  isplitl [Hw]; · iexact Hw
  iexact Ho

end Cert.KernelIdeal.Talk

end
-- ==== Proof.Records.lean ====
/- The two regions as records of the region library: the first, whose last point exchanges the statistics, through the record of a
   kernel that talks; the second through the record of one that does not. Every statement is over an arbitrary float instance. -/
module

public import proofs.«01_k».proof.Proof.Data

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## The semaphores the first region has for itself -/

/-- The three the copies count their sources on, and the four they are received on. -/
def osem : Fin 3 ⊕ Fin 4 → SemLoc sig
  | .inl k => .dma (sendS k)
  | .inr d => .dma (recvS d)

theorem osem_facts : Pipeline.OwnSemFacts spec0 osem := by decide

theorem ownSems_eq (c : Dev nD) : (Pipeline.ownSems0 osem c : sProp 𝕄)
    = iprop((semVal (sendCell c 0) 0 ∗ semVal (sendCell c 1) 0 ∗ semVal (sendCell c 2) 0)
      ∗ (semVal (recvCell c c) 0 ∗ semVal (recvCell c (ante c 0)) 0 ∗ semVal (recvCell c (ante c 1)) 0 ∗ semVal (recvCell c (ante c 2)) 0)) := by
  show bigSep Finset.univ (fun k : Fin 3 ⊕ Fin 4 => (semVal ((c : Thread nD τ), osem k) 0 : sProp 𝕄)) = _
  rw [bigSep_univ_sum]
  have h1 : bigSep Finset.univ (fun k : Fin 3 => (semVal ((c : Thread nD τ), osem (.inl k)) 0 : sProp 𝕄))
      = iprop(semVal (sendCell c 0) 0 ∗ semVal (sendCell c 1) 0 ∗ semVal (sendCell c 2) 0) := by
    rw [bigSep_eq_bigSepL_of_eq [0, 1, 2] (by decide) (by decide)]; rfl
  have h2 : bigSep Finset.univ (fun d : Fin 4 => (semVal ((c : Thread nD τ), osem (.inr d)) 0 : sProp 𝕄))
      = iprop(semVal (recvCell c c) 0 ∗ semVal (recvCell c (ante c 0)) 0 ∗ semVal (recvCell c (ante c 1)) 0 ∗ semVal (recvCell c (ante c 2)) 0) := by
    rw [bigSep_eq_bigSepL_of_eq [c, ante c 0, ante c 1, ante c 2] (univ_antes c) (nodup_antes c)]; rfl
  rw [h1, h2]
  rfl

/-! ## The ghost state of the exchange before its cells are opened -/

/-- What device `c` holds of its `k`-th copy and of the copy it receives from `k + 1` places back, before the cells are opened. -/
def closedCopy (c : Dev nD) (k : Fin 3) : sProp 𝕄 :=
  iprop(openTok ER (sendCell c k) ∗ openTok ER (recvCell c (ante c k))
    ∗ (dutyTok ER (barCell (peer c k)) 0 c ∗ dutyTok ER (sendCell c k) 0 c ∗ dutyTok ER (recvCell (peer c k) c) 0 c)
    ∗ cred (tallyAt (recvCell c (ante c k)) () N))

/-- What the launch deals device `c` for the exchange, besides the records. -/
def dealt (c : Dev nD) : sProp 𝕄 :=
  iprop(atPos ER (barCell c) 0 ∅ 0 ∗ cred (tallyAt (barCell c) () 3) ∗ closedCopy (F := F) c 0 ∗ closedCopy (F := F) c 1 ∗ closedCopy (F := F) c 2)

/-- What the first region is entered with. -/
def Tk (c : Dev nD) : sProp 𝕄 := iprop(∃ κ, records (stats m) κ ∗ dealt (F := F) c)

/-- Opening a copy's two cells, their counters at zero. -/
theorem open_copy (st : Dev nD → Vec F S2x2x128 .f32) (κ : GSem nD τ sig → ℕ) (c : Dev nD) (k : Fin 3) :
    iprop(records st κ ∗ closedCopy (F := F) c k ∗ semVal (sendCell c k) 0 ∗ semVal (recvCell c (ante c k)) 0)
      ⊢ (|={Set.univ}=> copyGhost c k : sProp 𝕄) := by
  unfold closedCopy copyGhost
  iintro ⟨#HI, ⟨HoS, HoV, ⟨HtB, HtS, HtV⟩, Hc⟩, Hs, Hv⟩
  imod (Rounds.cell_open ER (Rd st) (g := sendCell c k) (Set.mem_univ (κ (sendCell c k)))) $$ [HoS Hs] with ⟨HatS, #HrS⟩
  · isplitr; · iapply (records_inv st κ _ (mem_send c k)); iexact HI
    isplitl [HoS] <;> iassumption
  imod (Rounds.cell_open ER (Rd st) (g := recvCell c (ante c k)) (Set.mem_univ (κ (recvCell c (ante c k))))) $$ [HoV Hv] with ⟨HatV, #HrV⟩
  · isplitr; · iapply (records_inv st κ _ (mem_recv c k)); iexact HI
    isplitl [HoV] <;> iassumption
  imodintro
  isplitl [HatS]; · iexact HatS
  isplitr; · iexact HrS
  isplitl [HatV]; · iexact HatV
  isplitr; · iexact HrV
  isplitl [HtB]; · iexact HtB
  isplitl [HtS]; · iexact HtS
  isplitl [HtV]; · iexact HtV
  iexact Hc

theorem hopen (c : Dev nD) : iprop(Tk m c ∗ Pipeline.ownSems0 osem c ∗ levAts L lv) ⊢ (|={Set.univ}=> ghost (stats m) c : sProp 𝕄) := by
  rw [ownSems_eq]
  unfold Tk dealt ghost
  iintro ⟨⟨%κ, #HI, HaB, HcB, H0, H1, H2⟩, ⟨⟨Hs0, Hs1, Hs2⟩, ⟨Hvc, Hv0, Hv1, Hv2⟩⟩, #HL⟩
  imod (open_copy (stats m) κ c 0) $$ [H0 Hs0 Hv0] with G0
  · isplitr; · iexact HI
    isplitl [H0]; · iexact H0
    isplitl [Hs0] <;> iassumption
  imod (open_copy (stats m) κ c 1) $$ [H1 Hs1 Hv1] with G1
  · isplitr; · iexact HI
    isplitl [H1]; · iexact H1
    isplitl [Hs1] <;> iassumption
  imod (open_copy (stats m) κ c 2) $$ [H2 Hs2 Hv2] with G2
  · isplitr; · iexact HI
    isplitl [H2]; · iexact H2
    isplitl [Hs2] <;> iassumption
  imodintro
  iexists κ
  isplitr; · iexact HI
  isplitr; · iexact HL
  isplitl [HaB]; · iexact HaB
  isplitl [HcB]; · iexact HcB
  isplitl [G0]; · iexact G0
  isplitl [G1]; · iexact G1
  isplitl [G2]; · iexact G2
  iexact Hvc

/-! ## Into and out of the first region -/

theorem phi0_first (c : Dev nD) : (dat0 m c).Φ 0 = before0 m c 0 (Nat.zero_le _) := rfl
theorem phi0_last (c : Dev nD) : (dat0 m c).Φ (Fin.last cfg0.N) = after0 (F := F) c := by
  have h : (Fin.last cfg0.N).val = 8 := N_0
  dsimp only [dat0]
  rw [if_pos h]
theorem owed0_last (c : Dev nD) : (dat0 m c).owed (Fin.last cfg0.N) = 0 := by
  have h : (Fin.last cfg0.N).val = 8 := N_0
  dsimp only [dat0]
  rw [if_pos h]
theorem before0_zero (c : Dev nD) : (before0 m c 0 (Nat.zero_le _) : sProp 𝕄)
    = iprop((∃ A, owns (c : Thread nD τ) accM fullShare A) ∗ anyBuf (F := F) c cc0_scratch1 ∗ others (F := F) c ∗ ghost (stats m) c ∗ ∃ r, prngReg c r) := rfl

theorem hin0 (c : Dev nD) : iprop(Pipeline.scopedRest spec0 c ∗ (∃ r, prngReg c r) ∗ StableHlo.held (c.tc : Thread nD τ) ∅ (V0 m c) ∗ ghost (stats m) c)
    ⊢ (dat0 m c).Φ 0 := by
  rw [phi0_first, before0_zero, rest0_eq]
  iintro ⟨⟨Ha, Hc, Ho⟩, Hp, -, Hg⟩
  isplitl [Ha]; · iapply (acc_of_any (F := F) c); iexact Ha
  isplitl [Hc]; · iexact Hc
  isplitl [Ho]; · iexact Ho
  isplitl [Hg]; · iexact Hg
  iexact Hp

theorem held_none (c : Dev nD) (W : Valuation τ sig (Elt F)) : (StableHlo.held (c.tc : Thread nD τ) ∅ W : sProp 𝕄) = BI.emp := by
  unfold StableHlo.held
  exact BI.bigSep_empty

/-- The barrier's counter, back at zero, is what the exchange leaves for the end. -/
def barZero (c : Dev nD) : sProp 𝕄 := semVal (barCell c) 0

theorem hout0 (c : Dev nD) : (dat0 m c).Φ (Fin.last cfg0.N)
    ⊢ iprop(Pipeline.scopedRest spec0 c ∗ (∃ r, prngReg c r) ∗ StableHlo.held (c.tc : Thread nD τ) ∅ (U1 m c) ∗ Pipeline.ownSems0 osem c ∗ barZero (F := F) c) := by
  rw [phi0_last, rest0_eq, ownSems_eq, held_none]
  unfold after0 sems barZero
  iintro ⟨Ha, Hc, Ho, ⟨Hb, ⟨S0, S1, S2⟩, R0, R1, R2, Rc⟩, Hp⟩
  isplitl [Ha Hc Ho]
  · isplitl [Ha]; · iexact Ha
    isplitl [Hc] <;> iassumption
  isplitl [Hp]; · iexact Hp
  isplitr; · iempintro
  isplitr [Hb]
  · isplitl [S0 S1 S2]
    · isplitl [S0]; · iexact S0
      isplitl [S1] <;> iassumption
    isplitl [Rc]; · iexact Rc
    isplitl [R0]; · iexact R0
    isplitl [R1] <;> iassumption
  iexact Hb

/-! ## Levels -/

/-- What a device owes before the exchange is owed to barriers and to cells a copy is received on. -/
theorem O₀_pos (c : Dev nD) (g : GSem nD τ sig) (u : Unit) (h : 0 < O₀ c g u) : (∃ d : Dev nD, g = barCell d) ∨ ∃ d : Dev nD, g = recvCell d c := by
  have hs (k : Fin 3) (h : 0 < owedSig c k g u) : g = barCell (peer c k) := by
    unfold owedSig at h
    rw [tallyAt_apply] at h
    by_contra hne
    rw [if_neg (fun e => hne e.1)] at h
    exact absurd h (Nat.lt_irrefl 0)
  have h' : 0 < owedSends c g u + owedSig c 2 g u + owedSig c 1 g u + owedSig c 0 g u := h
  rcases Nat.eq_zero_or_pos (owedSig c 0 g u) with h0 | h0
  · rcases Nat.eq_zero_or_pos (owedSig c 1 g u) with h1 | h1
    · rcases Nat.eq_zero_or_pos (owedSig c 2 g u) with h2 | h2
      · exact .inr (owedSends_pos c g u (by omega))
      · exact .inl ⟨_, hs 2 h2⟩
    · exact .inl ⟨_, hs 1 h1⟩
  · exact .inl ⟨_, hs 0 h0⟩

theorem O₀_level (c : Dev nD) (g : GSem nD τ sig) (u : Unit) (h : 0 < O₀ c g u) : u ∈ L g ∧ 0 < lv g u := by
  rcases O₀_pos c g u h with ⟨d, rfl⟩ | ⟨d, rfl⟩
  · exact ⟨by rw [L_tc]; exact Finset.mem_singleton_self _, by dsimp only [lv]; rw [if_pos rfl]; decide⟩
  · exact ⟨by rw [L_tc]; exact Finset.mem_singleton_self _, by dsimp only [lv]; rw [if_neg (dma_ne_bar _), if_pos ⟨c, rfl⟩]; decide⟩

theorem stage0_sem : ∀ (w : Fin 2) (s : Fin (spec0 w).nbuf) (d : Dev nD), (SemLoc.dma ((spec0 w).sem s) : SemLoc sig) ≠ .dma (recvS d) := by decide
theorem stage1_sem : ∀ (w : Fin 4) (s : Fin (spec1 w).nbuf) (d : Dev nD), (SemLoc.dma ((spec1 w).sem s) : SemLoc sig) ≠ .dma (recvS d) := by decide

/-- A cell that is neither a barrier nor received on lies at level zero. -/
theorem lv_zero (c : Dev nD) (s : DmaSem sig) (h : ∀ d : Dev nD, (SemLoc.dma s : SemLoc sig) ≠ .dma (recvS d)) : lv ((c : Thread nD τ), .dma s) () ≤ 0 := by
  dsimp only [lv]
  rw [if_neg (dma_ne_bar _), if_neg (fun ⟨d, e⟩ => h d e)]

theorem owed0_level (c : Dev nD) (t : Fin (cfg0.N + 1)) (g : GSem nD τ sig) (i : Unit) (h : 0 < (dat0 m c).owed t g i) : i ∈ L g ∧ 0 < lv g i := by
  have e : (dat0 m c).owed t = if t.val = 8 then 0 else O₀ c := rfl
  rw [e] at h
  split at h
  · exact absurd h (Nat.lt_irrefl 0)
  · exact O₀_level c g i h

/-! ## The records -/

/-- The unscoped buffers that are no array of the first region. -/
abbrev off0 : Finset (DevRef τ sig) := Pipeline.ucRefs τ sig \ Pipeline.arrRefs (τ := τ) spec0

theorem arr0_sub : Pipeline.arrRefs (τ := τ) spec0 ⊆ Pipeline.ucRefs τ sig := by decide
theorem arr1_sub : Pipeline.arrRefs (τ := τ) spec1 ⊆ Pipeline.ucRefs τ sig := by decide

theorem share0 (c : Dev nD) (w : Fin cfg0.W) : (dat0 m c).share w = fullShare := by
  unfold Dat.share; split <;> rfl
theorem share1 (c : Dev nD) (w : Fin cfg1.W) : (dat1 m c).share w = fullShare := by
  unfold Dat.share; split <;> rfl

set_option backward.isDefEq.respectTransparency.types false in
def reg0 : Pipeline.RegionSeg (pcfgs (F := F)) adm (pdats m) () defs₀ 𝒱₀ L lv 0 :=
  Pipeline.RegionSeg.ofTalk (pcfgs (F := F)) adm (pdats m) () defs₀ 𝒱₀ L lv 0 osem osem_facts
    ∅ off0 (Finset.empty_subset _) launch0.toP rfl (fun c => (body0 m c).loose)
    (fun _ => 0) O₀ (fun c => (show (dat0 m c).owed 0 = O₀ c from rfl).trans (zero_add _).symm) (owed0_last m) (fun _ => rfl) (share0 m)
    (V0 m) (U1 m) (fun c b hb => Pipeline.afterRegion_off (dat0 m c) (V0 m c) (Pipeline.ucRefs τ sig) b (Finset.sdiff_subset hb))
    (Tk m) (barZero (F := F)) (fun c => ghost (stats m) c) (barZero (F := F)) (hopen m) (hin0 m) (hout0 m)
    (fun c => by iintro H; imodintro; iexact H)
    (fun _ => 0)
    ⟨fun c w s => by rw [L_tc]; exact Finset.mem_singleton_self _, fun c w s => lv_zero c _ (stage0_sem w s), owed0_level m⟩
    (fun _ => iprop(emp))
    (fun _ _ => rfl) (fun c w => (Pipeline.afterRegion_arr (dat0 m c) (V0 m c) winFacts0.arr_inj w).symm)

theorem scopedRest_only (c : Dev nD) :
    iprop(Pipeline.scopedRest spec1 c ∗ emp) ⊢ (Pipeline.scopedRest (Ix := Unit) (Name := ℕ) (U := UU) (Lvl := ℕ) (Val := Elt F) spec1 c : sProp 𝕄) := by
  iintro ⟨H, -⟩; iexact H
theorem only_scopedRest (c : Dev nD) :
    (Pipeline.scopedRest (Ix := Unit) (Name := ℕ) (U := UU) (Lvl := ℕ) (Val := Elt F) spec1 c : sProp 𝕄) ⊢ iprop(Pipeline.scopedRest spec1 c ∗ emp) := by
  iintro H
  isplitl [H]; · iexact H
  iempintro

/-- What rides beside the second region. -/
def beside (c : Dev nD) : sProp 𝕄 := iprop((∃ r, prngReg c r) ∗ barZero (F := F) c)

set_option backward.isDefEq.respectTransparency.types false in
def reg1 : Pipeline.RegionSeg (pcfgs (F := F)) adm (pdats m) () defs₀ 𝒱₀ L lv 1 :=
  Pipeline.RegionSeg.ofHeldIn (pcfgs (F := F)) adm (pdats m) () defs₀ 𝒱₀ L lv 1 (fun _ => 0) (Pipeline.ucRefs τ sig)
    (fun _ => iprop(emp)) (fun _ => iprop(emp)) launch1.toP rfl (fun c => (body1 m c).loose)
    (fun _ _ => rfl) (fun _ => rfl) (share1 m) (scopedRest_only (F := F)) (only_scopedRest (F := F))
    (fun _ => 0)
    ⟨fun c w s => by rw [L_tc]; exact Finset.mem_singleton_self _, fun c w s => lv_zero c _ (stage1_sem w s),
      fun _ _ _ h => absurd h (Nat.lt_irrefl 0)⟩
    (beside (F := F)) (U1 m) (fun _ _ => rfl)

/-! ## What the regions are entered and left with -/

theorem reg0_pre (c : Dev nD) :
    iprop(StableHlo.held (c : Thread nD τ) (Pipeline.ucRefs τ sig) (V0 m c) ∗ (Tk m c ∗ (∃ r, prngReg c r) ∗ ∃ W, owes (c : Thread nD τ) (O₀ c) W))
      ⊢ (reg0 m).pre c := by
  show _ ⊢ iprop(StableHlo.held (c.tc : Thread nD τ) (Pipeline.arrRefs (τ := τ) spec0) (V0 m c) ∗ (∃ r, prngReg c r)
    ∗ (StableHlo.held (c.tc : Thread nD τ) off0 (V0 m c) ∗ emp) ∗ Tk m c ∗ ∃ Wd, owes (c : Thread nD τ) (0 + O₀ c) Wd)
  rw [zero_add, StableHlo.held_sub_split (c.tc : Thread nD τ) arr0_sub (V0 m c)]
  iintro ⟨⟨Ha, Hu⟩, HT, Hp, HO⟩
  isplitl [Ha]; · iexact Ha
  isplitl [Hp]; · iexact Hp
  isplitl [Hu]
  · isplitl [Hu]; · iexact Hu
    iempintro
  isplitl [HT]; · iexact HT
  iexact HO

theorem reg0_post (c : Dev nD) : (reg0 m).post c
    ⊢ iprop(StableHlo.held (c : Thread nD τ) (Pipeline.ucRefs τ sig) (U1 m c)
      ∗ ((∃ W, owes (c : Thread nD τ) (0 : CellTallies nD τ sig Unit) W) ∗ beside (F := F) c)) := by
  show iprop(StableHlo.held (c.tc : Thread nD τ) (Pipeline.arrRefs (τ := τ) spec0) (U1 m c) ∗ (∃ r, prngReg c r)
    ∗ (StableHlo.held (c.tc : Thread nD τ) off0 (U1 m c) ∗ emp) ∗ barZero (F := F) c ∗ ∃ Wd, owes (c : Thread nD τ) (0 : CellTallies nD τ sig Unit) Wd) ⊢ _
  rw [StableHlo.held_sub_split (c.tc : Thread nD τ) arr0_sub (U1 m c)]
  unfold beside
  iintro ⟨Ha, Hp, ⟨Hu, -⟩, Hb, HO⟩
  isplitl [Ha Hu]
  · isplitl [Ha]; · iexact Ha
    iexact Hu
  isplitl [HO]; · iexact HO
  isplitl [Hp] <;> iassumption

theorem reg1_pre (c : Dev nD) : iprop(StableHlo.held (c : Thread nD τ) (Pipeline.ucRefs τ sig) (U1 m c)
      ∗ ((∃ W, owes (c : Thread nD τ) (0 : CellTallies nD τ sig Unit) W) ∗ beside (F := F) c)) ⊢ (reg1 m).pre c := by
  show _ ⊢ iprop(StableHlo.held (c.tc : Thread nD τ) (Pipeline.arrRefs (τ := τ) spec1) (U1 m c) ∗ emp
    ∗ (StableHlo.held (c.tc : Thread nD τ) (Pipeline.ucRefs τ sig \ Pipeline.arrRefs (τ := τ) spec1) (U1 m c) ∗ beside (F := F) c)
    ∗ ∃ Wd, owes (c : Thread nD τ) (0 : CellTallies nD τ sig Unit) Wd)
  rw [StableHlo.held_sub_split (c.tc : Thread nD τ) arr1_sub (U1 m c)]
  iintro ⟨⟨Ha, Hu⟩, HO, Hb⟩
  isplitl [Ha]; · iexact Ha
  isplitr; · iempintro
  isplitl [Hu Hb]
  · isplitl [Hu] <;> iassumption
  iexact HO

theorem reg1_post (c : Dev nD) : (reg1 m).post c ⊢ iprop(StableHlo.held (c : Thread nD τ) (Pipeline.ucRefs τ sig) (U2 m c)
      ∗ ((∃ W, owes (c : Thread nD τ) (0 : CellTallies nD τ sig Unit) W) ∗ beside (F := F) c)) := by
  show iprop(StableHlo.held (c.tc : Thread nD τ) (Pipeline.arrRefs (τ := τ) spec1) (U2 m c) ∗ emp
    ∗ (StableHlo.held (c.tc : Thread nD τ) (Pipeline.ucRefs τ sig \ Pipeline.arrRefs (τ := τ) spec1) (U1 m c) ∗ beside (F := F) c)
    ∗ ∃ Wd, owes (c : Thread nD τ) (0 : CellTallies nD τ sig Unit) Wd) ⊢ _
  rw [StableHlo.held_sub_split (c.tc : Thread nD τ) arr1_sub (U2 m c),
    StableHlo.held_congr (c.tc : Thread nD τ) (V := U2 m c) (V' := U1 m c)
      (Pipeline.afterRegion_off (dat1 m c) (U1 m c) (Pipeline.ucRefs τ sig))]
  iintro ⟨Ha, -, ⟨Hu, Hb⟩, HO⟩
  isplitl [Ha Hu]
  · isplitl [Ha]; · iexact Ha
    iexact Hu
  isplitl [HO]; · iexact HO
  iexact Hb

end Cert.KernelIdeal.Talk
-- ==== Proof.Run.lean ====
/- The launch of the program and its run: every weakly fair execution ends with each device's unscoped buffers at what the two regions
   leave in them and with every semaphore at zero. Every statement is over an arbitrary float instance. -/
module

public import proofs.«01_k».proof.Proof.Records
public import Idealize.ShloMosaic.Lib.Quiescent
public import Idealize.ShloMosaic.Lib.Pipeline.Launch

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens of the protocol, counted by devices -/

/-- The two cells of the `k`-th copies of device `c`: of the one it sends, of the one it receives. -/
def copyCell (x : (Dev nD × Fin 3) × Fin 2) : GSem nD τ sig :=
  if x.2 = 0 then sendCell x.1.1 x.1.2 else recvCell x.1.1 (ante x.1.1 x.1.2)

theorem copyCell_inj : ∀ x y, copyCell x = copyCell y → x = y := by decide +kernel

/-- The three tokens of device `c` towards its `k`-th peer: its barrier's, the copy's source's, the copy's destination's. -/
def copyTok (x : (Dev nD × Fin 3) × Fin 3) : GSem nD τ sig × ℕ × Dev nD :=
  (if x.2 = 0 then barCell (peer x.1.1 x.1.2) else if x.2 = 1 then sendCell x.1.1 x.1.2 else recvCell (peer x.1.1 x.1.2) x.1.1, 0, x.1.1)

theorem copyTok_inj : ∀ x y, copyTok x = copyTok y → x = y := by decide +kernel

/-- Every token the launch deals. -/
def toks : Finset (GSem nD τ sig × ℕ × Dev nD) := Finset.univ.map ⟨copyTok, fun x y h => copyTok_inj x y h⟩

theorem copyCells_eq : copyCells = Finset.univ.map ⟨copyCell, fun x y h => copyCell_inj x y h⟩ := by
  ext g
  unfold copyCells
  simp only [Finset.mem_union, Finset.mem_image, Finset.mem_map, Finset.mem_univ, true_and, Function.Embedding.coeFn_mk]
  constructor
  · rintro (⟨p, rfl⟩ | ⟨p, rfl⟩)
    · exact ⟨(p, 0), rfl⟩
    · exact ⟨(p, 1), rfl⟩
  · rintro ⟨⟨p, i⟩, rfl⟩
    match i with
    | 0 => exact .inl ⟨p, rfl⟩
    | 1 => exact .inr ⟨p, rfl⟩

theorem disjoint_cells : Disjoint barCells copyCells := by
  rw [Finset.disjoint_left]
  intro g h1 h2
  obtain ⟨c, -, rfl⟩ := Finset.mem_map.mp h1
  rw [copyCells_eq] at h2
  obtain ⟨⟨p, i⟩, -, h⟩ := Finset.mem_map.mp h2
  match i with
  | 0 => exact dma_ne_bar (sendS p.2) (congrArg Prod.snd h)
  | 1 => exact dma_ne_bar (recvS (ante p.1 p.2)) (congrArg Prod.snd h)

theorem bigSep_three (Φ : Fin 3 → sProp 𝕄) : bigSep Finset.univ Φ = iprop(Φ 0 ∗ Φ 1 ∗ Φ 2) := by
  rw [bigSep_eq_bigSepL_of_eq [0, 1, 2] (by decide) (by decide)]; rfl

/-! ## Dealing the launch's ghost state -/

/-- Device `c`'s rights to open the two cells of its `k`-th copies, and its three tokens towards its `k`-th peer. -/
def opens (c : Dev nD) (k : Fin 3) : sProp 𝕄 := iprop(openTok ER (sendCell c k) ∗ openTok ER (recvCell c (ante c k)))
def duties (c : Dev nD) (k : Fin 3) : sProp 𝕄 :=
  iprop(dutyTok ER (barCell (peer c k)) 0 c ∗ dutyTok ER (sendCell c k) 0 c ∗ dutyTok ER (recvCell (peer c k) c) 0 c)

theorem opens_eq : bigSep copyCells (fun g => (openTok ER g : sProp 𝕄))
    = bigSep Finset.univ fun c : Dev nD => bigSep Finset.univ fun k : Fin 3 => (opens (F := F) c k : sProp 𝕄) := by
  rw [copyCells_eq, bigSep_map, bigSep_univ_prod, bigSep_univ_prod]
  exact bigSep_congr fun c _ => bigSep_congr fun k _ => BI.bigSep_fin_two (fun i : Fin 2 => (openTok ER (copyCell ((c, k), i)) : sProp 𝕄))

theorem duties_eq : bigSep toks (fun x => (dutyTok ER x.1 x.2.1 x.2.2 : sProp 𝕄))
    = bigSep Finset.univ fun c : Dev nD => bigSep Finset.univ fun k : Fin 3 => (duties (F := F) c k : sProp 𝕄) := by
  unfold toks
  rw [bigSep_map, bigSep_univ_prod, bigSep_univ_prod]
  exact bigSep_congr fun c _ => bigSep_congr fun k _ =>
    bigSep_three (fun i : Fin 3 => (dutyTok ER (copyTok ((c, k), i)).1 (copyTok ((c, k), i)).2.1 (copyTok ((c, k), i)).2.2 : sProp 𝕄))

theorem bars_eq (Φ : GSem nD τ sig → sProp 𝕄) : bigSep barCells Φ = bigSep Finset.univ fun c : Dev nD => Φ (barCell c) :=
  bigSep_map (s := Finset.univ) _ (Φ := Φ)

/-! ## The launch's credit -/

/-- The devices moved `k + 1` places round. -/
def turn (k : Fin 3) : Dev nD ≃ Dev nD := ⟨fun c => peer c k, fun c => ante c k, fun c => ante_peer c k, fun c => peer_ante c k⟩

/-- What is owed to device `c` at launch: three units of its barrier and its three receptions. -/
def due (c : Dev nD) : CellTallies nD τ sig Unit :=
  tallyAt (barCell c) () 3 + (tallyAt (recvCell c (ante c 0)) () N + (tallyAt (recvCell c (ante c 1)) () N + tallyAt (recvCell c (ante c 2)) () N))

theorem sum_sig (k : Fin 3) : (∑ c : Dev nD, owedSig c k) = ∑ c : Dev nD, (tallyAt (barCell c) () 1 : CellTallies nD τ sig Unit) :=
  Equiv.sum_comp (turn k) fun c => (tallyAt (barCell c) () 1 : CellTallies nD τ sig Unit)

theorem sum_send (k : Fin 3) : (∑ c : Dev nD, owedSend c k) = ∑ c : Dev nD, (tallyAt (recvCell c (ante c k)) () N : CellTallies nD τ sig Unit) := by
  rw [← Equiv.sum_comp (turn k) fun c => (tallyAt (recvCell c (ante c k)) () N : CellTallies nD τ sig Unit)]
  refine Finset.sum_congr rfl fun c _ => ?_
  show owedSend c k = tallyAt (recvCell (peer c k) (ante (peer c k) k)) () N
  rw [ante_peer]; rfl

theorem regroup {A : Type} [AddCommMonoid A] (a b c d : A) : c + b + a + d + d + d = d + d + d + (a + (b + c)) := by ac_rfl

theorem sum_due : (∑ c, O₀ c) = ∑ c, due c := by
  unfold O₀ owedSends due
  simp only [Finset.sum_add_distrib]
  rw [sum_sig 0, sum_sig 1, sum_sig 2, sum_send 0, sum_send 1, sum_send 2]
  have h3 : (∑ c : Dev nD, (tallyAt (barCell c) () 3 : CellTallies nD τ sig Unit))
      = ∑ c : Dev nD, tallyAt (barCell c) () 1 + ∑ c : Dev nD, tallyAt (barCell c) () 1 + ∑ c : Dev nD, tallyAt (barCell c) () 1 := by
    rw [← Finset.sum_add_distrib, ← Finset.sum_add_distrib]
    exact Finset.sum_congr rfl fun c _ => by rw [tallyAt_add, tallyAt_add]
  rw [h3]
  exact regroup _ _ _ _

theorem due_tc (d : Dev nD) (g : GSem nD τ sig) (h : due d g ≠ 0) : g.1 = (d.tc : Thread nD τ) := by
  by_contra hne
  apply h
  unfold due
  have e (sm : SemLoc sig) (n : ℕ) : (tallyAt ((d : Thread nD τ), sm) () n : CellTallies nD τ sig Unit) g = 0 :=
    tallyAt_ne_cell (fun e => hne (congrArg Prod.fst e)) () n
  rw [Pi.add_apply, Pi.add_apply, Pi.add_apply, e, e, e, e, add_zero, add_zero, add_zero]

theorem cred_pair (a b : CellTallies nD τ sig Unit) : (cred (a + b) : sProp 𝕄) = iprop(cred a ∗ cred b) :=
  BI.Entails.antisymm (cred_add a b).1 (cred_add a b).2

theorem credits (c : Dev nD) : (Pipeline.launchCred O₀ c : sProp 𝕄)
    = iprop(cred (tallyAt (barCell c) () 3) ∗ cred (tallyAt (recvCell c (ante c 0)) () N) ∗ cred (tallyAt (recvCell c (ante c 1)) () N)
        ∗ cred (tallyAt (recvCell c (ante c 2)) () N)) := by
  rw [Pipeline.launchCred_of_sum O₀ due sum_due due_tc c]
  unfold due
  rw [cred_pair, cred_pair, cred_pair]

/-! ## The launch -/

/-- The launch element: the pipeline library's at the staging cells, and the protocol's. -/
def u₀ : UU :=
  (initOf (Pipeline.cells (Pipeline.pin (pcfgs (F := F)) adm) cellOf_inj) (Pipeline.launchToks (Pipeline.pin (pcfgs (F := F)) adm) cellOf_inj),
    launchOf barCells copyCells toks)

/-- The protocol's launch element, kept on device 0 until it is dealt. -/
def G (c : Dev nD) : sProp 𝕄 := if c = 0 then BI.own (ER (launchOf barCells copyCells toks)) else iprop(emp)

theorem all_G : bigSep Finset.univ (G (F := F)) = (BI.own (ER (launchOf barCells copyCells toks)) : sProp 𝕄) := by
  rw [bigSep_univ_at _ 0, bigSep_congr (s := Finset.univ.erase (0 : Dev nD)) (Ψ := fun _ => (BI.emp : sProp 𝕄))
    (fun c hc => by unfold G; rw [if_neg (Finset.ne_of_mem_erase hc)]; rfl), BI.bigSep_emp_const]
  unfold G
  rw [if_pos rfl]
  exact BI.equiv_iff.mp sep_emp

theorem counters (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- What a device starts with, besides its buffers. -/
def start (c : Dev nD) : sProp 𝕄 := iprop(Tk m c ∗ (∃ r, prngReg c r) ∗ ∃ W, owes (c : Thread nD τ) (O₀ c) W)
abbrev T₀ (c : Dev nD) : sProp 𝕄 := iprop(StableHlo.held (c : Thread nD τ) (Pipeline.ucRefs τ sig) (V0 m c) ∗ start m c)
abbrev Tₙ (c : Dev nD) : sProp 𝕄 := iprop(StableHlo.held (c : Thread nD τ) (Pipeline.ucRefs τ sig) (U2 m c) ∗ barZero (F := F) c)

/-- What of a device's launch holdings is not the protocol's ghost state. -/
def bundle (c : Dev nD) : sProp 𝕄 :=
  iprop(StableHlo.held (c : Thread nD τ) (Pipeline.ucRefs τ sig) (V0 m c)
    ∗ (cred (tallyAt (barCell c) () 3) ∗ cred (tallyAt (recvCell c (ante c 0)) () N) ∗ cred (tallyAt (recvCell c (ante c 1)) () N)
        ∗ cred (tallyAt (recvCell c (ante c 2)) () N))
    ∗ owes (c : Thread nD τ) (O₀ c) ∅ ∗ ∃ r, prngReg c r)

/-- What of the protocol's ghost state is a device's alone. -/
def linear (c : Dev nD) : sProp 𝕄 :=
  iprop(atPos ER (barCell c) 0 ∅ 0 ∗ (bigSep Finset.univ fun k : Fin 3 => opens (F := F) c k) ∗ (bigSep Finset.univ fun k : Fin 3 => duties (F := F) c k))

theorem start_of (κ : GSem nD τ sig → ℕ) (c : Dev nD) : iprop(records (stats m) κ ∗ (linear (F := F) c ∗ bundle m c)) ⊢ T₀ m c := by
  unfold T₀ start Tk dealt closedCopy linear bundle
  rw [bigSep_three, bigSep_three]
  unfold opens duties
  iintro ⟨#HR, ⟨HaB, ⟨⟨S0, R0⟩, ⟨S1, R1⟩, ⟨S2, R2⟩⟩, D0, D1, D2⟩, Hh, ⟨CB, C0, C1, C2⟩, HO, Hp⟩
  isplitl [Hh]; · iexact Hh
  isplitr [HO Hp]
  · iexists κ
    isplitr; · iexact HR
    isplitl [HaB]; · iexact HaB
    isplitl [CB]; · iexact CB
    isplitl [S0 R0 D0 C0]
    · isplitl [S0]; · iexact S0
      isplitl [R0]; · iexact R0
      isplitl [D0] <;> iassumption
    isplitl [S1 R1 D1 C1]
    · isplitl [S1]; · iexact S1
      isplitl [R1]; · iexact R1
      isplitl [D1] <;> iassumption
    isplitl [S2]; · iexact S2
    isplitl [R2]; · iexact R2
    isplitl [D2] <;> iassumption
  isplitl [Hp]; · iexact Hp
  iexists ∅; iexact HO

/-- What the launch hands every device, and the first thread states made of it all at once. -/
theorem init :
    iprop((bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G (F := F) c)) ∗ levAts L lv)
      ⊢ (|={Set.univ}=> bigSep Finset.univ (T₀ m) : sProp 𝕄) := by
  have hcore (c : Dev nD) : iprop(unscopedBufs c (fun b => m ((c.tc : Thread nD τ).loc b)) ∗ unscopedSems0 c
        ∗ owes (c.tc : Thread nD τ) (O₀ c) ∅ ∗ Pipeline.launchCred O₀ c ∗ prngReg c (ρ c) ∗ G (F := F) c)
      ⊢ (iprop(bundle m c ∗ (semVal (barCell c) 0 ∗ G (F := F) c)) : sProp 𝕄) := by
    rw [show (unscopedBufs c (fun b => m ((c.tc : Thread nD τ).loc b)) : sProp 𝕄) = StableHlo.held (c.tc : Thread nD τ) (Pipeline.ucRefs τ sig) (V0 m c)
      from Pipeline.unscopedBufs_held c (V0 m c), counters, credits]
    unfold bundle
    iintro ⟨Hh, Hus, HO, Hc, Hp, HG⟩
    isplitr [Hus HG]
    · isplitl [Hh]; · iexact Hh
      isplitl [Hc]; · iexact Hc
      isplitl [HO]; · iexact HO
      iexists (ρ c); iexact Hp
    isplitl [Hus] <;> iassumption
  iintro ⟨H, -⟩
  ihave H' := (show (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G (F := F) c))
      ⊢ (bigSep Finset.univ fun c : Dev nD => iprop(bundle m c ∗ (semVal (barCell c) 0 ∗ G (F := F) c)) : sProp 𝕄) from bigSep_mono fun c _ => hcore c) $$ H
  ihave H2 := (Entails.of_eq (bigSep_sep' (s := Finset.univ) (Φ := bundle m) (Ψ := fun c : Dev nD => iprop(semVal (barCell c) 0 ∗ G (F := F) c)))) $$ H'
  icases H2 with ⟨HB, H3⟩
  ihave H4 := (Entails.of_eq (bigSep_sep' (s := Finset.univ) (Φ := fun c : Dev nD => (semVal (barCell c) 0 : sProp 𝕄)) (Ψ := G (F := F)))) $$ H3
  icases H4 with ⟨Hv, HG⟩
  ihave Hu := (Entails.of_eq (all_G (F := F))) $$ HG
  ihave Hv' := (Entails.of_eq (bars_eq (F := F) fun g => semVal g 0).symm) $$ Hv
  imod (Rounds.fund_launch ER (Rd (stats m)) disjoint_cells (fun g _ h => h) toks) $$ [Hv' Hu] with ⟨%κ, -, #Hinv, #Hr, Hat, Hopen, Htok⟩
  · isplitl [Hv'] <;> iassumption
  imodintro
  iapply (bigSep_with_persistent (R := records (stats m) κ) (Φ := fun c => iprop(linear (F := F) c ∗ bundle m c)) fun c _ => start_of m κ c)
  isplitr
  · unfold records
    isplitr; · iexact Hinv
    iexact Hr
  iapply (Entails.of_eq (bigSep_sep' (s := Finset.univ) (Φ := linear (F := F)) (Ψ := bundle m)).symm)
  isplitr [HB]
  · unfold linear
    iapply (Entails.of_eq (bigSep_sep' (s := Finset.univ) (Φ := fun c : Dev nD => (atPos ER (barCell c) 0 ∅ 0 : sProp 𝕄)) (Ψ := fun c : Dev nD =>
      iprop((bigSep Finset.univ fun k : Fin 3 => opens (F := F) c k) ∗ (bigSep Finset.univ fun k : Fin 3 => duties (F := F) c k)))).symm)
    isplitl [Hat]
    · iapply (Entails.of_eq (bars_eq (F := F) fun g => atPos ER g 0 ∅ 0)); iexact Hat
    iapply (Entails.of_eq (bigSep_sep' (s := Finset.univ) (Φ := fun c : Dev nD => bigSep Finset.univ fun k : Fin 3 => (opens (F := F) c k : sProp 𝕄))
      (Ψ := fun c : Dev nD => bigSep Finset.univ fun k : Fin 3 => duties (F := F) c k)).symm)
    isplitl [Hopen]
    · iapply (Entails.of_eq (opens_eq (F := F))); iexact Hopen
    iapply (Entails.of_eq (duties_eq (F := F))); iexact Htok
  iexact HB

/-! ## The run -/

theorem unscoped_eq : ∀ sm : SemLoc sig, sm.isScoped .tc = false → sm = .reg barS := by decide

/-- The two regions in a row. -/
abbrev items : List (Pipeline.Seg (pcfgs (F := F)) adm (pdats m) () defs₀ 𝒱₀ L lv) := [.region (reg0 m), .region (reg1 m)]

theorem links (c : Dev nD) : Pipeline.Seg.Chains (T₀ m) (items m) fun c => iprop(Tₙ m c ∗ ∃ W, owes (c.tc : Thread nD τ) (0 : CellTallies nD τ sig Unit) W) := by
  refine ⟨reg0_pre m, fun c => (reg0_post m c).trans (reg1_pre m c), fun c => (reg1_post m c).trans ?_⟩
  unfold beside
  iintro ⟨Hh, HO, -, Hb⟩
  isplitr [HO]
  · isplitl [Hh] <;> iassumption
  iexact HO

set_option backward.isDefEq.respectTransparency.types false in
/-- THE RUN: from any memory with zero counters every weakly fair execution of @main on the four devices ends, with every unscoped
    buffer at what the two regions leave in it and every semaphore at zero. -/
theorem run_main : θ_run defs (onTc (τ := τ) (main (F := F))) ⟨m, fun _ => 0, ρ⟩
    (fun r => (∀ (c : Dev nD), ∀ b ∈ Pipeline.ucRefs τ sig, r.2.mem (c, b) = U2 m c b) ∧ r.2.sem = fun _ => 0) :=
  Pipeline.θ_run_regions_kit_sems (pcfgs (F := F)) adm (pdats m) () cellOf_inj EP defs₀ 𝒱₀ L lv m ρ main (items m)
    (fun c Q => by rw [main_segs adm (pdats m) () 𝒱₀ L lv (reg0 m) (reg1 m) c])
    (by simp only [items, Pipeline.Seg.pipes_region, Pipeline.Seg.pipes_nil]; decide)
    (O₀ := O₀) (hL := L_of_ne) (G := G) (u₀ := u₀ (F := F))
    (hu₀ := by
      unfold u₀
      iintro Hu
      ihave H := (ownU_pair _ _) $$ Hu
      icases H with ⟨HP, HX⟩
      imodintro
      isplitl [HP]; · iexact HP
      rw [all_G]; iexact HX)
    (T₀ := T₀ m) (Tₙ := Tₙ m) (hch := links m 0) (hinit := init m ρ)
    (QY := fun c s => (∀ b ∈ Pipeline.ucRefs τ sig, s.mem (c, b) = U2 m c b) ∧ s.sem (barCell c) = 0)
    (hfin := fun c s' => by
      unfold Tₙ StableHlo.held barZero
      iintro ⟨⟨Hh, Hb⟩, HSI⟩
      icombine HSI Hb gives %hb
      ihave Hr := (pointsTo_read_all (Pipeline.ucRefs τ sig) (fun b => ((c : Thread nD τ).1, b)) (U2 m c) s') $$ [Hh HSI]
      · isplitl [Hh] <;> iassumption
      icases Hr with ⟨%h, HSI⟩
      imodintro
      isplitr
      · ipureintro
        exact ⟨h, by simpa using hb⟩
      iexact HSI)
    (hQ := fun s h hs => ⟨fun c => (h c).1, sem_eq_zero hs fun c sm hsm => by
      obtain rfl := unscoped_eq sm hsm
      exact (h c).2⟩)

end Cert.KernelIdeal.Talk
-- ==== Proof.Ends.lean ====
/- What the run leaves in the arguments: what was there at launch. Every statement is over an arbitrary float instance. -/
module

public import proofs.«01_k».proof.Proof.Run

@[expose] public section

noncomputable section

namespace Cert.KernelIdeal.Talk

open Idealize.ShloMosaic
open Idealize.ShloMosaic.TcCoe
open Idealize.SL.Sem
open Cert.KernelIdeal Cert.KernelIdeal.Gen

variable {F : FTy → Type} [FloatOps F]
variable (m : (ℓ : Loc nD τ sig) → Buf (Elt F) ℓ) (ρ : Dev nD → PrngReg)

theorem out0 : ∀ (r : Ref sig .tc), r ≠ main_v1 → ∀ w : Fin cfg0.W, Pipeline.arrRef cfg0.spec w = r → (cfg0.win w).isOut = false := by
  intro r hr w
  match w with
  | 0 => exact fun _ => rfl
  | 1 => exact fun e => absurd e.symm hr
theorem out1 : ∀ (r : Ref sig .tc), r ≠ main_v2 → ∀ w : Fin cfg1.W, Pipeline.arrRef cfg1.spec w = r → (cfg1.win w).isOut = false := by
  intro r hr w
  match w with
  | 0 => exact fun _ => rfl
  | 1 => exact fun _ => rfl
  | 2 => exact fun _ => rfl
  | 3 => exact fun e => absurd e.symm hr

/-- The first region changes the statistics alone. -/
theorem U1_of (c : Dev nD) (r : Ref sig .tc) (h : r ≠ main_v1) : U1 m c (Proc.devRef .tc r) = m ((c : Thread nD τ).loc r) :=
  Pipeline.afterRegion_keeps (dat0 m c) (V0 m c) winFacts0.arr_inj (fun _ => rfl) r (out0 r h)
/-- The second changes the result alone. -/
theorem U2_of (c : Dev nD) (r : Ref sig .tc) (h : r ≠ main_v2) : U2 m c (Proc.devRef .tc r) = U1 m c (Proc.devRef .tc r) :=
  Pipeline.afterRegion_keeps (dat1 m c) (U1 m c) winFacts1.arr_inj (fun _ => rfl) r (out1 r h)

theorem mem_uc (r : Ref sig .tc) (h : ¬ (Proc.devRef .tc r : DevRef τ sig).isScoped) : (Proc.devRef .tc r : DevRef τ sig) ∈ Pipeline.ucRefs τ sig :=
  Finset.mem_filter.mpr ⟨StableHlo.devRef_mem_tcRefs r, h⟩

/-- The run, its result and its arguments read off: the result is what the second region leaves, the arguments are unchanged, every
    semaphore is at zero. -/
theorem run_ends : θ_run defs (onTc (τ := τ) (main (F := F))) ⟨m, fun _ => 0, ρ⟩
    (fun r => (∀ c : Dev nD, r.2.mem ((c : Thread nD τ).loc main_v2) = U2 m c (Proc.devRef .tc main_v2)
        ∧ r.2.mem ((c : Thread nD τ).loc main_arg0) = m ((c : Thread nD τ).loc main_arg0)
        ∧ r.2.mem ((c : Thread nD τ).loc main_arg1) = m ((c : Thread nD τ).loc main_arg1)) ∧ r.2.sem = fun _ => 0) :=
  (θ_run defs (onTc (τ := τ) (main (F := F))) ⟨m, fun _ => 0, ρ⟩).mono (fun r h =>
    ⟨fun c => ⟨h.1 c _ (mem_uc main_v2 (by decide)),
      ((h.1 c _ (mem_uc main_arg0 (by decide))).trans (U2_of m c main_arg0 (by decide))).trans (U1_of m c main_arg0 (by decide)),
      ((h.1 c _ (mem_uc main_arg1 (by decide))).trans (U2_of m c main_arg1 (by decide))).trans (U1_of m c main_arg1 (by decide))⟩, h.2⟩)
    (run_main m ρ)

/-- The run, its arguments and its semaphores alone. -/
theorem run_frame : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)) ∧ r.2.sem = fun _ => 0) :=
  (θ_run defs (onTc (τ := τ) (main (F := F))) ⟨m, fun _ => 0, ρ⟩).mono (fun _ h => ⟨fun c => (h.1 c).2, h.2⟩) (run_ends m ρ)

end Cert.KernelIdeal.Talk
-- ==== Proof.Frames.lean ====
/- The frames of the three programs: each runs to its end, leaves its arguments as they were and every semaphore
   counter at zero. -/
module

public import proofs.«01_k».proof.Defs
public import proofs.«01_k».proof.Proof.KernelEnds
public import proofs.«01_k».proof.Proof.Gen.ReferenceIdeal
public import proofs.«01_k».proof.Proof.Gen.ReferenceIdeal.Run
public import Idealize.ShloMosaic.Lib.Quiescent

@[expose] public section

noncomputable section

namespace Cert.Proof

open Idealize.ShloMosaic Idealize.SL.Sem

/-- The kernel over float words runs, keeps its arguments and ends with every semaphore at zero. -/
theorem frame_kernel : Cert.quiescent_Kernel :=
  fun m ρ _ => Cert.Kernel.Talk.run_frame m ρ

/-- The kernel over the extended reals runs, keeps its arguments and ends with every semaphore at zero. -/
theorem frame_ideal : Cert.quiescent_KernelIdeal :=
  fun m ρ _ => Cert.KernelIdeal.Talk.run_frame m ρ

/-- The reference runs, keeps its arguments and ends with every semaphore at zero (it has none). -/
theorem frame_reference : Cert.quiescent_ReferenceIdeal := by
  intro m ρ _
  refine (θ_run Cert.ReferenceIdeal.defs _ _).mono (fun r h => ?_) (Cert.ReferenceIdeal.Value.run (F := Ideal) m ρ)
  exact ⟨fun c => (h c).2, sem_eq_zero_of_no_sems (by decide) r.2⟩

end Cert.Proof

end
-- ==== Proof.Contents.lean ====
/- What the two regions leave in their result arrays, entry by entry: the first one the statistics, the second one, in rows
   `32 t … 32 t + 31`, the block of point `t`. Every statement is over an arbitrary float instance. -/
module

public import proofs.«01_k».proof.Proof.Frames
public import Idealize.ShloMosaic.Lib.Pipeline.Value
public import Idealize.ShloMosaic.Lib.ValueIdxCore

@[expose] public section

noncomputable section

namespace Cert.KernelIdeal.Talk

open Idealize.ShloMosaic Idealize.ShloMosaic.ValueIdx
open Idealize.ShloMosaic.TcCoe
open Idealize.SL.Sem
open Cert.KernelIdeal Cert.KernelIdeal.Gen

variable {F : FTy → Type} [FloatOps F]
variable (m : (ℓ : Loc nD τ sig) → Buf (Elt F) ℓ)

/-! ## Where the blocks lie -/

/-- The row of a device's array that is row `h` of block `t`. -/
def rowAt (t h : ℕ) (ht : t < 8) (hh : h < 32) : Fin 256 := ⟨32 * t + h, by omega⟩

theorem index0_0 (t : Fin grid0.N) : win0_0.index t 0 = 0 ∧ win0_0.index t 1 = t.val ∧ win0_0.index t 2 = 0 ∧ win0_0.index t 3 = 0 := by
  rcases fin_N0 t with rfl | rfl | rfl | rfl | rfl | rfl | rfl | rfl <;> decide
theorem index1_0 (t : Fin grid1.N) : win1_0.index t 0 = 0 ∧ win1_0.index t 1 = t.val ∧ win1_0.index t 2 = 0 ∧ win1_0.index t 3 = 0 := by
  rcases fin_N1 t with rfl | rfl | rfl | rfl | rfl | rfl | rfl | rfl <;> decide
theorem index1_3 (t : Fin grid1.N) : win1_3.index t 0 = 0 ∧ win1_3.index t 1 = t.val ∧ win1_3.index t 2 = 0 ∧ win1_3.index t 3 = 0 := by
  rcases fin_N1 t with rfl | rfl | rfl | rfl | rfl | rfl | rfl | rfl <;> decide

theorem N0_lt (t : Fin cfg0.N) : t.val < 8 := lt_of_lt_of_eq t.isLt N_0
theorem N1_lt (t : Fin cfg1.N) : t.val < 8 := lt_of_lt_of_eq t.isLt N_1

/-- The input's block of the first region at an entry. -/
theorem xblk_apply (c : Dev nD) (t : Fin cfg0.N) (b : Fin 2) (h : Fin 32) (w : Fin 256) (k : Fin 128) :
    xblk m c t (ix4 b h w k) = m ((c : Thread nD τ).loc main_arg0) (ix4 b (rowAt t.val h.val (N0_lt t) h.isLt) w k) := by
  obtain ⟨i0, i1, i2, i3⟩ := index0_0 t
  unfold xblk
  rw [View.read_apply]
  refine congrArg (m ((c : Thread nD τ).loc main_arg0)) (funext fun a => ?_)
  apply Fin.ext
  match a with
  | ⟨0, _⟩ => show win0_0.index t 0 * 2 + 1 * b.val = b.val; rw [i0]; omega
  | ⟨1, _⟩ => show win0_0.index t 1 * 32 + 1 * h.val = 32 * t.val + h.val; rw [i1]; omega
  | ⟨2, _⟩ => show win0_0.index t 2 * 256 + 1 * w.val = w.val; rw [i2]; omega
  | ⟨3, _⟩ => show win0_0.index t 3 * 128 + 1 * k.val = k.val; rw [i3]; omega

/-- The input's block of the second region at an entry. -/
theorem yblk_apply (c : Dev nD) (t : Fin cfg1.N) (b : Fin 2) (h : Fin 32) (w : Fin 256) (k : Fin 128) :
    yblk m c t (ix4 b h w k) = m ((c : Thread nD τ).loc main_arg0) (ix4 b (rowAt t.val h.val (N1_lt t) h.isLt) w k) := by
  obtain ⟨i0, i1, i2, i3⟩ := index1_0 t
  unfold yblk
  rw [View.read_apply, U1_of m c main_arg0 (by decide)]
  show m ((c : Thread nD τ).loc main_arg0) _ = _
  refine congrArg (m ((c : Thread nD τ).loc main_arg0)) (funext fun a => ?_)
  apply Fin.ext
  match a with
  | ⟨0, _⟩ => show win1_0.index t 0 * 2 + 1 * b.val = b.val; rw [i0]; omega
  | ⟨1, _⟩ => show win1_0.index t 1 * 32 + 1 * h.val = 32 * t.val + h.val; rw [i1]; omega
  | ⟨2, _⟩ => show win1_0.index t 2 * 256 + 1 * w.val = w.val; rw [i2]; omega
  | ⟨3, _⟩ => show win1_0.index t 3 * 128 + 1 * k.val = k.val; rw [i3]; omega

/-- The weight's block is the weight. -/
theorem wblk_eq (c : Dev nD) (t : Fin cfg1.N) : wblk m c t = m ((c : Thread nD τ).loc main_arg1) := by
  have hz : (fun a => win1_2.index t a * main_arg1.ty.shape.size a) = fun _ => 0 := by
    rcases fin_N1 t with rfl | rfl | rfl | rfl | rfl | rfl | rfl | rfl <;> exact funext fun a => by fin_cases a <;> decide
  unfold wblk
  rw [U1_of m c main_arg1 (by decide)]
  exact Memref.read_access_unit_zero (Elt F) main_arg1 hz (fun a => by rw [congrFun hz a]; simp) (m ((c : Thread nD τ).loc main_arg1))

/-! ## The statistics' array -/

/-- The one write-back of the first region writes the statistics over the whole array. -/
theorem flushed0 (c : Dev nD) (t : Fin cfg0.N) : (dat0 m c).flushed 1 t = ((cfg0.win 1).blk t).view.read (Elt F) (finalStats (stats m)) := by
  have hz : (fun a => win0_1.index t a * main_v1.ty.shape.size a) = fun _ => 0 := by
    rcases fin_N0 t with rfl | rfl | rfl | rfl | rfl | rfl | rfl | rfl <;> exact funext fun a => by fin_cases a <;> decide
  exact (Memref.read_access_unit_zero (Elt F) main_v1 hz (fun a => by rw [congrFun hz a]; simp) (finalStats (stats m))).symm

/-- So the array holds the statistics after the first region. -/
theorem U1_stats (c : Dev nD) : U1 m c (Proc.devRef .tc main_v1) = finalStats (stats m) := by
  refine (Pipeline.afterRegion_arr (dat0 m c) (V0 m c) winFacts0.arr_inj 1).trans ?_
  refine (dat0 m c).arrAt_eq_of_cover 1 (finalStats (stats m)) (fun t _ => flushed0 m c t) fun i => ⟨t0_7, (flush0_1 t0_7).mpr rfl, ?_⟩
  show i ∈ ((View.whole main_v1).slice (win0_1.rect t0_7)).set
  rw [View.set_slice_whole, Rect.mem_set_unit]
  have h0 : (i 0).val < 2 := (i 0).isLt
  have h1 : (i 1).val < 2 := (i 1).isLt
  have h2 : (i 2).val < 128 := (i 2).isLt
  intro a
  match a with
  | ⟨0, _⟩ => show 0 ≤ (i 0).val ∧ (i 0).val < 0 + 2; omega
  | ⟨1, _⟩ => show 0 ≤ (i 1).val ∧ (i 1).val < 0 + 2; omega
  | ⟨2, _⟩ => show 0 ≤ (i 2).val ∧ (i 2).val < 0 + 128; omega

/-- And the second region reads them. -/
theorem sblk_eq (c : Dev nD) (t : Fin cfg1.N) : sblk m c t = finalStats (stats m) := by
  have hz : (fun a => win1_1.index t a * main_v1.ty.shape.size a) = fun _ => 0 := by
    rcases fin_N1 t with rfl | rfl | rfl | rfl | rfl | rfl | rfl | rfl <;> exact funext fun a => by fin_cases a <;> decide
  unfold sblk
  rw [U1_stats]
  exact Memref.read_access_unit_zero (Elt F) main_v1 hz (fun a => by rw [congrFun hz a]; simp) (finalStats (stats m))

/-! ## The result's array -/

/-- The block of the result that holds row `r`, and the row within it. -/
def blockOf (r : Fin 256) : Fin cfg1.N := ⟨r.val / 32, by rw [show cfg1.N = 8 from N_1]; have := r.isLt; omega⟩
def within (r : Fin 256) : Fin 32 := ⟨r.val % 32, by omega⟩

/-- The result, entry by entry. -/
def outArr (c : Dev nD) : Vec F S2x256x256x256 .bf16 :=
  fun i => oblk m c (blockOf (i 1)) (ix4 (i 0) (within (i 1)) (i 2) (i 3))

theorem flushed1 (c : Dev nD) (t : Fin cfg1.N) : (dat1 m c).flushed 3 t = ((cfg1.win 3).blk t).view.read (Elt F) (outArr m c) := by
  obtain ⟨i0, i1, i2, i3⟩ := index1_3 t
  have ht := N1_lt t
  funext j
  rw [View.read_apply]
  show oblk m c t j = outArr m c (((cfg1.win 3).blk t).view.emb j)
  have h1 : (j 1).val < 32 := (j 1).isLt
  have e0 : ((((cfg1.win 3).blk t).view.emb j) 0).val = (j 0).val := by
    show win1_3.index t 0 * 2 + 1 * (j 0).val = _; rw [i0]; omega
  have e1 : ((((cfg1.win 3).blk t).view.emb j) 1).val = 32 * t.val + (j 1).val := by
    show win1_3.index t 1 * 32 + 1 * (j 1).val = _; rw [i1]; omega
  have e2 : ((((cfg1.win 3).blk t).view.emb j) 2).val = (j 2).val := by
    show win1_3.index t 2 * 256 + 1 * (j 2).val = _; rw [i2]; omega
  have e3 : ((((cfg1.win 3).blk t).view.emb j) 3).val = (j 3).val := by
    show win1_3.index t 3 * 256 + 1 * (j 3).val = _; rw [i3]; omega
  unfold outArr
  have ht' : blockOf ((((cfg1.win 3).blk t).view.emb j) 1) = t := Fin.ext (by
    show _ / 32 = _; rw [e1]; omega)
  rw [ht']
  congr 1
  funext a
  apply Fin.ext
  match a with
  | ⟨0, _⟩ => exact e0.symm
  | ⟨1, _⟩ => show (j 1).val = _ % 32; rw [e1]; omega
  | ⟨2, _⟩ => exact e2.symm
  | ⟨3, _⟩ => exact e3.symm

theorem U2_out (c : Dev nD) : U2 m c (Proc.devRef .tc main_v2) = outArr m c := by
  refine (Pipeline.afterRegion_arr (dat1 m c) (U1 m c) winFacts1.arr_inj 3).trans ?_
  refine (dat1 m c).arrAt_eq_of_cover 3 (outArr m c) (fun t _ => flushed1 m c t) fun i => ⟨blockOf (i 1), flush1_3 _, ?_⟩
  show i ∈ ((View.whole main_v2).slice (win1_3.rect (blockOf (i 1)))).set
  rw [View.set_slice_whole, Rect.mem_set_unit]
  obtain ⟨i0, i1, i2, i3⟩ := index1_3 (blockOf (i 1))
  have h0 : (i 0).val < 2 := (i 0).isLt
  have h1 : (i 1).val < 256 := (i 1).isLt
  have h2 : (i 2).val < 256 := (i 2).isLt
  have h3 : (i 3).val < 256 := (i 3).isLt
  have hb : (blockOf (i 1)).val = (i 1).val / 32 := rfl
  intro a
  match a with
  | ⟨0, _⟩ => show win1_3.index (blockOf (i 1)) 0 * 2 ≤ (i 0).val ∧ (i 0).val < win1_3.index (blockOf (i 1)) 0 * 2 + 2; rw [i0]; omega
  | ⟨1, _⟩ => show win1_3.index (blockOf (i 1)) 1 * 32 ≤ (i 1).val ∧ (i 1).val < win1_3.index (blockOf (i 1)) 1 * 32 + 32; rw [i1, hb]; omega
  | ⟨2, _⟩ => show win1_3.index (blockOf (i 1)) 2 * 256 ≤ (i 2).val ∧ (i 2).val < win1_3.index (blockOf (i 1)) 2 * 256 + 256; rw [i2]; omega
  | ⟨3, _⟩ => show win1_3.index (blockOf (i 1)) 3 * 256 ≤ (i 3).val ∧ (i 3).val < win1_3.index (blockOf (i 1)) 3 * 256 + 256; rw [i3]; omega

end Cert.KernelIdeal.Talk

end
-- ==== Proof.Scalars.lean ====
/- One entry of the computation over the extended reals. From an entry `x` of a channel, the channel's sum and its sum of squares
   (or of squared distances from the mean), both programs compute `h / (1 + e⁻ʰ)` at the normalised entry `h`; for real numbers the
   two ways of computing it agree. -/
module

public import Idealize.ShloMosaic.PureOps.Ideal.Laws
public import Idealize.ShloMosaic.Lib.IdealHost
public import Mathlib.Tactic.Linarith
public import Mathlib.Tactic.FieldSimp
public import Mathlib.Tactic.NormNum
public import Mathlib.Tactic.Ring

@[expose] public section

noncomputable section

namespace Cert.Value

open Idealize.ShloMosaic
open scoped BigOperators

/-! ## The constants -/

/-- The small number added to a variance. -/
def eps : ℝ := 10995116 / 1099511627776

theorem eps_pos : 0 < eps := by unfold eps; norm_num

theorem ofBits_eps : Ideal.ofBits .f32 0x3727C5AC#32 = ((eps : ℝ) : EReal) := by
  unfold eps
  simp [Ideal.ofBits, Ideal.ieee, -EReal.coe_mul]; norm_num
theorem ofBits_count : Ideal.ofBits .f32 0x48800000#32 = ((262144 : ℝ) : EReal) := by
  simp [Ideal.ofBits, Ideal.ieee, -EReal.coe_mul]; norm_num
theorem ofBits_inv_count : Ideal.ofBits .f32 0x36800000#32 = ((1 / 262144 : ℝ) : EReal) := by
  simp [Ideal.ofBits, Ideal.ieee, -EReal.coe_mul]; norm_num
theorem ofBits_half : Ideal.ofBits .bf16 0x3F00#16 = ((1 / 2 : ℝ) : EReal) := by
  simp [Ideal.ofBits, Ideal.ieee, -EReal.coe_mul]; norm_num

/-! ## Over the reals -/

/-- The activation, `h / (1 + e⁻ʰ)`. -/
def silu (h : ℝ) : ℝ := h / (1 + Real.exp (-h))

/-- The same by the hyperbolic tangent of half the argument. -/
theorem silu_tanh (h : ℝ) : (1 / 2 * h) * (Real.tanh (1 / 2 * h) + 1) = silu h := by
  have hp := Real.exp_pos (1 / 2 * h)
  have hq := Real.exp_pos (-(1 / 2 * h))
  have hpq : Real.exp (1 / 2 * h) * Real.exp (-(1 / 2 * h)) = 1 := by rw [← Real.exp_add]; simp
  have hq2 : Real.exp (-h) = Real.exp (-(1 / 2 * h)) * Real.exp (-(1 / 2 * h)) := by rw [← Real.exp_add]; congr 1; ring
  unfold silu
  rw [Real.tanh_eq_sinh_div_cosh, Real.sinh_eq, Real.cosh_eq, hq2]
  generalize Real.exp (1 / 2 * h) = p at hp hpq
  generalize Real.exp (-(1 / 2 * h)) = q at hq hpq
  have h1 : p + q ≠ 0 := by positivity
  have h2 : 1 + q * q ≠ 0 := by positivity
  field_simp
  linear_combination (2 * h * q) * hpq

/-- The entry `x` of a channel with mean `μ` and variance `v`, normalised. -/
def normal (x μ v : ℝ) : ℝ := (x - μ) / Real.sqrt (v + eps)

section Variance

variable {ι : Type} [Fintype ι] (r : ι → ℝ)

/-- The mean and the variance of a family of 262144 reals. -/
def mean : ℝ := (∑ i, r i) / 262144
def variance : ℝ := (∑ i, (r i - mean r) * (r i - mean r)) / 262144

theorem variance_nonneg : 0 ≤ variance r :=
  div_nonneg (Finset.sum_nonneg fun _ _ => mul_self_nonneg _) (by norm_num)

/-- The variance is the mean of the squares minus the square of the mean. -/
theorem variance_eq (hn : (Fintype.card ι : ℝ) = 262144) :
    (∑ i, r i * r i) * (1 / 262144) - mean r * mean r = variance r := by
  have e : ∑ i, (r i - mean r) * (r i - mean r) = (∑ i, r i * r i) - 2 * mean r * (∑ i, r i) + 262144 * (mean r * mean r) := by
    rw [Finset.mul_sum, ← Finset.sum_sub_distrib, ← hn, ← nsmul_eq_mul, ← Finset.card_univ, ← Finset.sum_const,
      ← Finset.sum_add_distrib]
    exact Finset.sum_congr rfl fun i _ => by ring
  have hm : ∑ i, r i = 262144 * mean r := by unfold mean; ring
  unfold variance
  rw [e, hm]
  ring

end Variance

/-! ## Over the extended reals -/

/-- A finite sum of reals, as an extended real. -/
theorem coe_sum {ι : Type} (s : Finset ι) (r : ι → ℝ) : ∑ i ∈ s, ((r i : ℝ) : EReal) = ((∑ i ∈ s, r i : ℝ) : EReal) := by
  classical
  induction s using Finset.induction_on with
  | empty => rfl
  | insert a s ha ih => rw [Finset.sum_insert ha, Finset.sum_insert ha, ih, EReal.coe_add]

/-- The scale the kernel keeps of a channel, from its sum `s` and its sum of squares `q`. -/
def scaleOf (s q : EReal) : EReal :=
  Ideal.rsqrt (q * Ideal.ofBits .f32 0x36800000#32 - s * Ideal.ofBits .f32 0x36800000#32 * (s * Ideal.ofBits .f32 0x36800000#32)
    + Ideal.ofBits .f32 0x3727C5AC#32)
/-- The shift it keeps. -/
def shiftOf (s q : EReal) : EReal :=
  (Ideal.ofBits .f32 0x00000000#32 - s * Ideal.ofBits .f32 0x36800000#32) * scaleOf s q
/-- What the kernel makes of an entry by a channel's scale and shift. -/
def apply (x a b : EReal) : EReal :=
  Ideal.ofBits .bf16 0x3F00#16 * (x * a + b) * (Ideal.tanh (Ideal.ofBits .bf16 0x3F00#16 * (x * a + b)) + Ideal.ofBits .bf16 0x3F80#16)

/-- The mean the reference takes, from a channel's sum. -/
def meanOf (s : EReal) : EReal := Ideal.div (Ideal.ofBits .f32 0x00000000#32 + s) (Ideal.ofBits .f32 0x48800000#32)
/-- The variance it takes, from the sum of the squared distances. -/
def varOf (q : EReal) : EReal :=
  Scalar.select (Ideal.cmp .ogt (Ideal.ofBits .f32 0x48800000#32 - (((0#32 : BitVec 32).toInt : ℝ) : EReal)) (Ideal.ofBits .f32 0x00000000#32))
    (Ideal.div (Ideal.ofBits .f32 0x00000000#32 + q) (Ideal.ofBits .f32 0x48800000#32 - (((0#32 : BitVec 32).toInt : ℝ) : EReal)))
    (Ideal.ofBits .f32 0x7FC00000#32)
/-- The entry it normalises, from the mean and the variance. -/
def normOf (x μ v : EReal) : EReal := Ideal.div (x - μ) (Ideal.sqrt (v + Ideal.ofBits .f32 0x3727C5AC#32))
/-- Its activation. -/
def siluOf (h : EReal) : EReal := Ideal.div h (Ideal.ofBits .f32 0x3F800000#32 + Ideal.exp (-h))

theorem div_real {y : ℝ} (hy : y ≠ 0) (x : ℝ) : Ideal.div (x : EReal) (y : EReal) = ((x / y : ℝ) : EReal) := by
  rw [Ideal.div_coe hy, ← EReal.coe_mul, mul_one_div]

/-- The kernel's entry, for a channel of reals. -/
theorem apply_real {ι : Type} [Fintype ι] (hn : (Fintype.card ι : ℝ) = 262144) (r : ι → ℝ) (x : ℝ) (s q : EReal)
    (hs : s = ∑ i, ((r i : ℝ) : EReal)) (hq : q = ∑ i, ((r i : ℝ) : EReal) * ((r i : ℝ) : EReal)) :
    apply x (scaleOf s q) (shiftOf s q) = ((silu (normal x (mean r) (variance r)) : ℝ) : EReal) := by
  have hv := variance_nonneg r
  have hpos : 0 < variance r + eps := add_pos_of_nonneg_of_pos hv eps_pos
  have hs' : s * Ideal.ofBits .f32 0x36800000#32 = ((mean r : ℝ) : EReal) := by
    rw [hs, coe_sum, ofBits_inv_count, ← EReal.coe_mul, mul_one_div]; rfl
  have hq' : q * Ideal.ofBits .f32 0x36800000#32 = (((∑ i, r i * r i) * (1 / 262144) : ℝ) : EReal) := by
    rw [hq, ofBits_inv_count, EReal.coe_mul, ← coe_sum]; simp only [EReal.coe_mul]
  have hscale : scaleOf s q = (((Real.sqrt (variance r + eps))⁻¹ : ℝ) : EReal) := by
    unfold scaleOf
    rw [hs', hq', ofBits_eps, ← EReal.coe_mul, ← EReal.coe_sub, ← EReal.coe_add, variance_eq r hn, Ideal.rsqrt_coe,
      if_neg (not_lt.mpr hpos.le), if_neg hpos.ne']
  have hshift : shiftOf s q = ((-(mean r) * (Real.sqrt (variance r + eps))⁻¹ : ℝ) : EReal) := by
    unfold shiftOf
    rw [hscale, hs', Ideal.ofBits_zero_f32, zero_sub, ← EReal.coe_neg, ← EReal.coe_mul]
  unfold apply
  rw [hscale, hshift, ofBits_half, Ideal.ofBits_one_bf16, ← EReal.coe_mul, ← EReal.coe_add, ← EReal.coe_mul, Ideal.tanh_coe,
    ← EReal.coe_one, ← EReal.coe_add, ← EReal.coe_mul, silu_tanh]
  congr 2
  unfold normal
  rw [div_eq_mul_inv]; ring

/-- The reference's entry, for a channel of reals. -/
theorem siluOf_real {ι : Type} [Fintype ι] (r : ι → ℝ) (x : ℝ) (s : EReal) (hs : s = ∑ i, ((r i : ℝ) : EReal)) (q : EReal)
    (hq : q = ∑ i, (((r i : ℝ) : EReal) - meanOf s) * (((r i : ℝ) : EReal) - meanOf s)) :
    siluOf (normOf x (meanOf s) (varOf q)) = ((silu (normal x (mean r) (variance r)) : ℝ) : EReal) := by
  have hv := variance_nonneg r
  have hpos : 0 < variance r + eps := add_pos_of_nonneg_of_pos hv eps_pos
  have hm : meanOf s = ((mean r : ℝ) : EReal) := by
    unfold meanOf
    rw [Ideal.ofBits_zero_f32, zero_add, hs, coe_sum, ofBits_count, div_real (by norm_num)]; rfl
  have h0 : Ideal.ofBits .f32 0x48800000#32 - (((0#32 : BitVec 32).toInt : ℝ) : EReal) = ((262144 : ℝ) : EReal) := by
    rw [ofBits_count]; simp
  have hvar : varOf q = ((variance r : ℝ) : EReal) := by
    unfold varOf
    rw [h0, Ideal.ofBits_zero_f32]
    have hc : Ideal.cmp .ogt ((262144 : ℝ) : EReal) 0 = 1#1 := by
      have : (0 : EReal) < ((262144 : ℝ) : EReal) := by exact_mod_cast (by norm_num : (0 : ℝ) < 262144)
      simp [Ideal.cmp, this]
    rw [hc, zero_add, hq, hm]
    show Ideal.div _ _ = _
    rw [show ∑ i, (((r i : ℝ) : EReal) - ((mean r : ℝ) : EReal)) * (((r i : ℝ) : EReal) - ((mean r : ℝ) : EReal))
      = (((∑ i, (r i - mean r) * (r i - mean r) : ℝ)) : EReal) from by
        rw [← coe_sum]; simp only [EReal.coe_mul, EReal.coe_sub], div_real (by norm_num)]
    rfl
  have hnorm : normOf x (meanOf s) (varOf q) = ((normal x (mean r) (variance r) : ℝ) : EReal) := by
    unfold normOf
    rw [hm, hvar, ofBits_eps, ← EReal.coe_sub, ← EReal.coe_add, Ideal.sqrt_coe, if_neg (not_lt.mpr hpos.le),
      div_real (Real.sqrt_pos.mpr hpos).ne']
    rfl
  rw [hnorm]
  unfold siluOf
  rw [Ideal.ofBits_one_f32, ← EReal.coe_neg, Ideal.exp_coe, ← EReal.coe_one, ← EReal.coe_add,
    div_real (by positivity)]
  rfl

end Cert.Value

end
-- ==== Proof.Sums.lean ====
/- Sums over the entries of a channel: a reduction over the two middle axes of a rank-4 array is a sum over their two coordinates,
   and the sum over the whole array is the sum of the devices' sums, each the sum of its blocks'. -/
module

public import Idealize.ShloMosaic.Lib.ValueIdxCore
public import Idealize.ShloMosaic.PureOps.Ideal.Laws

@[expose] public section

noncomputable section

namespace Cert.Value

open Idealize.ShloMosaic Idealize.ShloMosaic.ValueIdx
open scoped BigOperators

variable {M : Type} [AddCommMonoid M]

/-- A sum over the indices whose first and last coordinates are those of `j` is a sum over the two coordinates between. -/
theorem sum_between {B H W C : ℕ} (D : (⟨4, ![B, H, W, C]⟩ : Shape).Idx → (⟨2, ![B, C]⟩ : Shape).Idx)
    (hD : ∀ i, D i = ix2 (i 0) (i 3)) (f : (⟨4, ![B, H, W, C]⟩ : Shape).Idx → M) (b : Fin B) (c : Fin C) :
    ∑ i ∈ Finset.univ.filter (fun i => D i = ix2 b c), f i = ∑ p : Fin H × Fin W, f (ix4 b p.1 p.2 c) := by
  refine Finset.sum_bij' (fun i _ => (i 1, i 2)) (fun p _ => ix4 b p.1 p.2 c) (fun _ _ => Finset.mem_univ _) (fun p _ => ?_)
    (fun i hi => ?_) (fun p _ => rfl) (fun i hi => ?_)
  · rw [Finset.mem_filter]; exact ⟨Finset.mem_univ _, hD _⟩
  all_goals
    have h := (Finset.mem_filter.mp hi).2
    rw [hD] at h
    have h0 : i 0 = b := congrFun h 0
    have h1 : i 3 = c := congrFun h 1
    have e : i = ix4 b (i 1) (i 2) c := by
      rw [← h0, ← h1]; exact eq_ix4 i
  · exact e.symm
  · exact congrArg f e

/-- The row of the whole array that is row `h` of block `t` of device `d`. -/
def wholeRow (d : Fin 4) (t : Fin 8) (h : Fin 32) : Fin 1024 :=
  ⟨256 * d.val + (32 * t.val + h.val), by have := d.isLt; have := t.isLt; have := h.isLt; omega⟩

/-- A row of the whole array as a device, a block and a row of the block. -/
def rowEquiv : Fin 4 × Fin 8 × Fin 32 ≃ Fin 1024 where
  toFun p := wholeRow p.1 p.2.1 p.2.2
  invFun r := (⟨r.val / 256, by have := r.isLt; omega⟩, ⟨r.val % 256 / 32, by omega⟩, ⟨r.val % 32, by omega⟩)
  left_inv p := by
    obtain ⟨d, t, h⟩ := p
    have := d.isLt; have := t.isLt; have := h.isLt
    refine Prod.ext (Fin.ext ?_) (Prod.ext (Fin.ext ?_) (Fin.ext ?_)) <;> dsimp only [wholeRow] <;> omega
  right_inv r := Fin.ext (by dsimp only [wholeRow]; omega)

/-- A sum over the rows and columns of the whole array, device by device and block by block. -/
theorem sum_rows (f : Fin 1024 → Fin 256 → M) :
    ∑ p : Fin 1024 × Fin 256, f p.1 p.2 = ∑ d : Fin 4, ∑ t : Fin 8, ∑ p : Fin 32 × Fin 256, f (wholeRow d t p.1) p.2 := by
  simp only [Fintype.sum_prod_type]
  rw [← Equiv.sum_comp rowEquiv]
  simp only [Fintype.sum_prod_type]
  rfl

end Cert.Value

end
-- ==== Proof.KernelStats.lean ====
/- The statistics over the extended reals, entry by entry: a device's accumulator holds the sums and the sums of squares of its
   blocks' channels, and the exchanged statistics are the scale and the shift made from the four devices' totals. -/
module

public import proofs.«01_k».proof.Proof.Contents
public import proofs.«01_k».proof.Proof.Scalars
public import proofs.«01_k».proof.Proof.Sums
public import Idealize.ShloMosaic.Lib.ValueIdx

@[expose] public section

noncomputable section

namespace Cert.KernelIdeal.Talk

open Idealize.ShloMosaic Idealize.ShloMosaic.ValueIdx
open Idealize.ShloMosaic.TcCoe
open Idealize.SL.Sem
open Cert.KernelIdeal Cert.KernelIdeal.Gen
open Cert.Value
open scoped BigOperators

/-! ## Casts between the shapes of a statistics row -/

section Casts

variable {α : Type}

theorem cast_row (x : S1x2x128.Idx → α) (h : S1x2x128.ShapeCasts S2x128) (b : Fin 2) (k : Fin 128) :
    shapeCast S2x128 x h (ix2 b k) = x (ix3 0 b k) := by
  refine shapeCast_apply x h (ix2 b k) (ix3 0 b k) ?_
  rw [Shape.rowMajor_val_three, Shape.rowMajor_val_two]
  show (0 * 2 + b.val) * 128 + k.val = b.val * 128 + k.val
  omega

theorem cast_to_row (x : S2x128.Idx → α) (h : S2x128.ShapeCasts S1x2x128) (b : Fin 2) (k : Fin 128) :
    shapeCast S1x2x128 x h (ix3 0 b k) = x (ix2 b k) := by
  refine shapeCast_apply x h (ix3 0 b k) (ix2 b k) ?_
  rw [Shape.rowMajor_val_three, Shape.rowMajor_val_two]
  show b.val * 128 + k.val = (0 * 2 + b.val) * 128 + k.val
  omega

theorem cast_slot (x : S2x2x128.Idx → α) (h : S2x2x128.ShapeCasts S1x2x2x128) (h' : S1x2x2x128.ShapeCasts S2x2x128) :
    shapeCast S2x2x128 (shapeCast S1x2x2x128 x h) h' = x := shapeCast_shapeCast x h h'

theorem slice_row0 (x : S2x2x128.Idx → α) (h : S2x2x128.Slices ![0, 0, 0] S1x2x128) (b : Fin 2) (k : Fin 128) :
    extractStridedSlice S1x2x128 ![0, 0, 0] x h (ix3 0 b k) = x (ix3 0 b k) := by
  refine extractStridedSlice_apply _ x h (ix3 0 b k) (ix3 0 b k) fun a => ?_
  match a with
  | ⟨0, _⟩ => rfl
  | ⟨1, _⟩ => exact (Nat.zero_add _).symm
  | ⟨2, _⟩ => exact (Nat.zero_add _).symm

theorem slice_row1 (x : S2x2x128.Idx → α) (h : S2x2x128.Slices ![1, 0, 0] S1x2x128) (b : Fin 2) (k : Fin 128) :
    extractStridedSlice S1x2x128 ![1, 0, 0] x h (ix3 0 b k) = x (ix3 1 b k) := by
  refine extractStridedSlice_apply _ x h (ix3 0 b k) (ix3 1 b k) fun a => ?_
  match a with
  | ⟨0, _⟩ => rfl
  | ⟨1, _⟩ => exact (Nat.zero_add _).symm
  | ⟨2, _⟩ => exact (Nat.zero_add _).symm

end Casts

theorem rows_at0 (p0 p1 : Vec Ideal S1x2x128 .f32) (b : Fin 2) (k : Fin 128) : rows p0 p1 (ix3 0 b k) = p0 (ix3 0 b k) := by
  unfold rows
  refine (if_pos (show (0 : ℕ) = 0 from rfl)).trans ?_
  exact congrArg p0 (funext fun a => match a with | ⟨0, _⟩ => rfl | ⟨1, _⟩ => rfl | ⟨2, _⟩ => rfl)

theorem rows_at1 (p0 p1 : Vec Ideal S1x2x128 .f32) (b : Fin 2) (k : Fin 128) : rows p0 p1 (ix3 1 b k) = p1 (ix3 0 b k) := by
  unfold rows
  refine (if_neg (show ¬((1 : Fin 2).val = 0) by decide)).trans ?_
  exact congrArg p1 (funext fun a => match a with | ⟨0, _⟩ => rfl | ⟨1, _⟩ => rfl | ⟨2, _⟩ => rfl)

theorem rowOf_at0 (X : Vec Ideal S2x2x128 .f32) (b : Fin 2) (k : Fin 128) : rowOf 0 X (ix3 0 b k) = X (ix3 0 b k) :=
  congrArg X (funext fun a => match a with | ⟨0, _⟩ => rfl | ⟨1, _⟩ => rfl | ⟨2, _⟩ => rfl)
theorem rowOf_at1 (X : Vec Ideal S2x2x128 .f32) (b : Fin 2) (k : Fin 128) : rowOf 1 X (ix3 0 b k) = X (ix3 1 b k) :=
  congrArg X (funext fun a => match a with | ⟨0, _⟩ => rfl | ⟨1, _⟩ => rfl | ⟨2, _⟩ => rfl)

/-! ## A block's sums -/

theorem drop_eq (h : S2x32x256x128.Reduces [1, 2] S2x128) (i : S2x32x256x128.Idx) : h.drop i = ix2 (i 0) (i 3) := by
  funext a
  apply Fin.ext
  match a with
  | ⟨0, _⟩ => exact h.drop_apply_val_of_eq i 0 0
  | ⟨1, _⟩ => exact h.drop_apply_val_of_eq i 1 3

/-- A block's sum over a channel. -/
theorem pay2_at (x : Vec Ideal S2x32x256x128 .f32) (b : Fin 2) (k : Fin 128) :
    k0_pay2 x (ix2 b k) = ∑ p : Fin 32 × Fin 256, x (ix4 b p.1 p.2 k) := by
  refine Eq.trans ?_ (sum_between (M := EReal) _ (drop_eq reduces_S2x32x256x128_S2x128) x b k)
  show Ideal.reduceAdd reduces_S2x32x256x128_S2x128 (k0_pay1 x) (ix2 b k) = _
  rw [show k0_pay1 x = x from shapeCast_self x _]
  rfl

/-- Its sum of squares. -/
theorem pay3_at (x : Vec Ideal S2x32x256x128 .f32) (b : Fin 2) (k : Fin 128) :
    k0_pay3 x (ix2 b k) = ∑ p : Fin 32 × Fin 256, x (ix4 b p.1 p.2 k) * x (ix4 b p.1 p.2 k) := by
  refine Eq.trans ?_ (sum_between (M := EReal) _ (drop_eq reduces_S2x32x256x128_S2x128) (fun i => x i * x i) b k)
  show Ideal.reduceAdd reduces_S2x32x256x128_S2x128 (mulf (k0_pay1 x) (k0_pay1 x)) (ix2 b k) = _
  rw [show k0_pay1 x = x from shapeCast_self x _]
  rfl

theorem pay6_at (x : Vec Ideal S2x32x256x128 .f32) (v : Vec Ideal S1x2x128 .f32) (b : Fin 2) (k : Fin 128) :
    k0_pay6 x v (ix3 0 b k) = v (ix3 0 b k) + ∑ p : Fin 32 × Fin 256, x (ix4 b p.1 p.2 k) := by
  show shapeCast S1x2x128 (addf (shapeCast S2x128 v shapeCasts_S1x2x128_S2x128) (k0_pay2 x)) shapeCasts_S2x128_S1x2x128 (ix3 0 b k) = _
  rw [cast_to_row, addf_apply, pay2_at, cast_row]

theorem pay7_at (x : Vec Ideal S2x32x256x128 .f32) (v : Vec Ideal S1x2x128 .f32) (b : Fin 2) (k : Fin 128) :
    k0_pay7 x v (ix3 0 b k) = v (ix3 0 b k) + ∑ p : Fin 32 × Fin 256, x (ix4 b p.1 p.2 k) * x (ix4 b p.1 p.2 k) := by
  show shapeCast S1x2x128 (addf (shapeCast S2x128 v shapeCasts_S1x2x128_S2x128) (k0_pay3 x)) shapeCasts_S2x128_S1x2x128 (ix3 0 b k) = _
  rw [cast_to_row, addf_apply, pay3_at, cast_row]

/-! ## A device's sums -/

variable (m : (ℓ : Loc nD τ sig) → Buf (Elt Ideal) ℓ)

/-- Device `c`'s input at row `r`. -/
def inAt (c : Dev nD) (b : Fin 2) (k : Fin 128) (r : Fin 256) (w : Fin 256) : EReal :=
  m ((c : Thread nD τ).loc main_arg0) (ix4 b r w k)

/-- Row `h` of block `t`. -/
def rowIn (t : Fin 8) (h : Fin 32) : Fin 256 := rowAt t.val h.val t.isLt h.isLt

/-- The sum of `g` over the entries of block `t`. -/
def blockSum (g : EReal → EReal) (c : Dev nD) (b : Fin 2) (k : Fin 128) (t : Fin 8) : EReal :=
  ∑ p : Fin 32 × Fin 256, g (inAt m c b k (rowIn t p.1) p.2)

theorem xblk_at (c : Dev nD) (t : Fin 8) (ht : t.val < cfg0.N) (b : Fin 2) (h : Fin 32) (w : Fin 256) (k : Fin 128) :
    xblk m c ⟨t.val, ht⟩ (ix4 b h w k) = inAt m c b k (rowIn t h) w := xblk_apply m c ⟨t.val, ht⟩ b h w k

/-- The accumulator after point `n` holds the sums over the blocks so far. -/
theorem acc_at (c : Dev nD) (b : Fin 2) (k : Fin 128) : ∀ (n : ℕ) (hn : n < cfg0.N) (h8 : n < 8),
    acc m c n hn (ix3 0 b k) = ∑ t : Fin (n + 1), blockSum m (fun x => x) c b k ⟨t.val, by omega⟩
    ∧ acc m c n hn (ix3 1 b k) = ∑ t : Fin (n + 1), blockSum m (fun x => x * x) c b k ⟨t.val, by omega⟩
  | 0, hn, h8 => by
    rw [Fin.sum_univ_one, Fin.sum_univ_one]
    constructor
    · refine (rows_at0 (k0_pay4 (xblk m c ⟨0, hn⟩)) (k0_pay5 (xblk m c ⟨0, hn⟩)) b k).trans ((cast_to_row _ _ b k).trans ((pay2_at _ b k).trans ?_))
      exact Finset.sum_congr rfl fun p _ => xblk_at m c ⟨0, h8⟩ hn b p.1 p.2 k
    · refine (rows_at1 (k0_pay4 (xblk m c ⟨0, hn⟩)) (k0_pay5 (xblk m c ⟨0, hn⟩)) b k).trans ((cast_to_row _ _ b k).trans ((pay3_at _ b k).trans ?_))
      exact Finset.sum_congr rfl fun p _ => by rw [xblk_at m c ⟨0, h8⟩ hn b p.1 p.2 k]; rfl
  | n + 1, hn, h8 => by
    obtain ⟨i0, i1⟩ := acc_at c b k n (Nat.lt_of_succ_lt hn) (Nat.lt_of_succ_lt h8)
    constructor
    · rw [Fin.sum_univ_castSucc]
      refine (rows_at0 (k0_pay6 (xblk m c ⟨n + 1, hn⟩) (rowOf 0 (acc m c n (Nat.lt_of_succ_lt hn)))) (k0_pay7 (xblk m c ⟨n + 1, hn⟩) (rowOf 1 (acc m c n (Nat.lt_of_succ_lt hn)))) b k).trans
        ((pay6_at _ _ b k).trans ?_)
      rw [rowOf_at0, i0]
      refine congrArg₂ (· + ·) rfl ?_
      exact Finset.sum_congr rfl fun p _ => xblk_at m c ⟨n + 1, h8⟩ hn b p.1 p.2 k
    · rw [Fin.sum_univ_castSucc]
      refine (rows_at1 (k0_pay6 (xblk m c ⟨n + 1, hn⟩) (rowOf 0 (acc m c n (Nat.lt_of_succ_lt hn)))) (k0_pay7 (xblk m c ⟨n + 1, hn⟩) (rowOf 1 (acc m c n (Nat.lt_of_succ_lt hn)))) b k).trans
        ((pay7_at _ _ b k).trans ?_)
      rw [rowOf_at1, i1]
      refine congrArg₂ (· + ·) rfl ?_
      exact Finset.sum_congr rfl fun p _ => by rw [xblk_at m c ⟨n + 1, h8⟩ hn b p.1 p.2 k]; rfl

/-- A device's sums when they are exchanged. -/
theorem stats_at (c : Dev nD) (b : Fin 2) (k : Fin 128) :
    stats m c (ix3 0 b k) = ∑ t : Fin 8, blockSum m (fun x => x) c b k t
    ∧ stats m c (ix3 1 b k) = ∑ t : Fin 8, blockSum m (fun x => x * x) c b k t := acc_at m c b k 7 lt7 (by decide)

/-! ## The exchanged statistics -/

/-- The sum of `g` over all devices' entries of a channel. -/
def total (g : EReal → EReal) (b : Fin 2) (k : Fin 128) : EReal := ∑ d : Dev nD, ∑ t : Fin 8, blockSum m g d b k t

variable (st : Dev nD → Vec Ideal S2x2x128 .f32)

theorem pay10_at (i : S2x2x128.Idx) : k0_pay10 (k0_pay9 (st 0)) (k0_pay9 (st 1)) (k0_pay9 (st 2)) (k0_pay9 (st 3)) i = ∑ d : Dev nD, st d i := by
  have e : ∀ d : Dev nD, shapeCast S2x2x128 (k0_pay9 (st d)) shapeCasts_S1x2x2x128_S2x2x128 = st d := fun d => cast_slot _ _ _
  show shapeCast S2x2x128 (k0_pay9 (st 0)) shapeCasts_S1x2x2x128_S2x2x128 i + shapeCast S2x2x128 (k0_pay9 (st 1)) shapeCasts_S1x2x2x128_S2x2x128 i
    + shapeCast S2x2x128 (k0_pay9 (st 2)) shapeCasts_S1x2x2x128_S2x2x128 i + shapeCast S2x2x128 (k0_pay9 (st 3)) shapeCasts_S1x2x2x128_S2x2x128 i = _
  rw [e, e, e, e]
  exact (Fin.sum_univ_four fun d : Fin 4 => st d i).symm

theorem pay11_at (b : Fin 2) (k : Fin 128) :
    k0_pay11 (k0_pay9 (st 0)) (k0_pay9 (st 1)) (k0_pay9 (st 2)) (k0_pay9 (st 3)) (ix2 b k) = (∑ d : Dev nD, st d (ix3 0 b k)) * Ideal.ofBits .f32 0x36800000#32 := by
  rw [← pay10_at st (ix3 0 b k), ← slice_row0 (k0_pay10 (k0_pay9 (st 0)) (k0_pay9 (st 1)) (k0_pay9 (st 2)) (k0_pay9 (st 3))) slices_S2x2x128_o0_0_0_S1x2x128,
    ← cast_row (extractStridedSlice S1x2x128 ![0, 0, 0] (k0_pay10 (k0_pay9 (st 0)) (k0_pay9 (st 1)) (k0_pay9 (st 2)) (k0_pay9 (st 3))) slices_S2x2x128_o0_0_0_S1x2x128) shapeCasts_S1x2x128_S2x128]
  rfl

theorem pay12_at (b : Fin 2) (k : Fin 128) :
    k0_pay12 (k0_pay9 (st 0)) (k0_pay9 (st 1)) (k0_pay9 (st 2)) (k0_pay9 (st 3)) (ix2 b k) = scaleOf (∑ d : Dev nD, st d (ix3 0 b k)) (∑ d : Dev nD, st d (ix3 1 b k)) := by
  unfold scaleOf
  rw [← pay11_at st, ← pay10_at st (ix3 1 b k), ← slice_row1 (k0_pay10 (k0_pay9 (st 0)) (k0_pay9 (st 1)) (k0_pay9 (st 2)) (k0_pay9 (st 3))) slices_S2x2x128_o1_0_0_S1x2x128,
    ← cast_row (extractStridedSlice S1x2x128 ![1, 0, 0] (k0_pay10 (k0_pay9 (st 0)) (k0_pay9 (st 1)) (k0_pay9 (st 2)) (k0_pay9 (st 3))) slices_S2x2x128_o1_0_0_S1x2x128) shapeCasts_S1x2x128_S2x128]
  rfl

theorem pay14_at (b : Fin 2) (k : Fin 128) :
    k0_pay14 (k0_pay9 (st 0)) (k0_pay9 (st 1)) (k0_pay9 (st 2)) (k0_pay9 (st 3)) (ix2 b k) = shiftOf (∑ d : Dev nD, st d (ix3 0 b k)) (∑ d : Dev nD, st d (ix3 1 b k)) := by
  unfold shiftOf
  rw [← pay11_at st, ← pay12_at st]
  rfl

/-- The statistics are the scale and the shift made from the four devices' sums. -/
theorem finalStats_at (b : Fin 2) (k : Fin 128) :
    finalStats st (ix3 0 b k) = scaleOf (∑ d : Dev nD, st d (ix3 0 b k)) (∑ d : Dev nD, st d (ix3 1 b k))
    ∧ finalStats st (ix3 1 b k) = shiftOf (∑ d : Dev nD, st d (ix3 0 b k)) (∑ d : Dev nD, st d (ix3 1 b k)) :=
  ⟨(rows_at0 _ _ b k).trans ((cast_to_row _ _ b k).trans (pay12_at st b k)),
    (rows_at1 _ _ b k).trans ((cast_to_row _ _ b k).trans (pay14_at st b k))⟩

theorem final_at (b : Fin 2) (k : Fin 128) :
    finalStats (stats m) (ix3 0 b k) = scaleOf (total m (fun x => x) b k) (total m (fun x => x * x) b k)
    ∧ finalStats (stats m) (ix3 1 b k) = shiftOf (total m (fun x => x) b k) (total m (fun x => x * x) b k) := by
  have e0 : ∑ d : Dev nD, stats m d (ix3 0 b k) = total m (fun x => x) b k := Finset.sum_congr rfl fun d _ => (stats_at m d b k).1
  have e1 : ∑ d : Dev nD, stats m d (ix3 1 b k) = total m (fun x => x * x) b k := Finset.sum_congr rfl fun d _ => (stats_at m d b k).2
  obtain ⟨h0, h1⟩ := finalStats_at (stats m) b k
  rw [e0, e1] at h0 h1
  exact ⟨h0, h1⟩

end Cert.KernelIdeal.Talk

end
-- ==== Proof.KernelValue.lean ====
/- The kernel's result over the extended reals, entry by entry: a sum over the channels of the activated entry times the weight. -/
module

public import proofs.«01_k».proof.Proof.KernelStats
public import Idealize.ShloMosaic.Lib.MatmulPlain

@[expose] public section

noncomputable section

namespace Cert.KernelIdeal.Talk

open Idealize.ShloMosaic Idealize.ShloMosaic.ValueIdx
open Idealize.ShloMosaic.TcCoe
open Idealize.SL.Sem
open Cert.KernelIdeal Cert.KernelIdeal.Gen
open Cert.Value
open scoped BigOperators

/-! ## The layout operations of the second body -/

section Casts

variable {α : Type}

/-- The row of the flattened block that an entry of the block lies in. -/
def flat (b : Fin 2) (h : Fin 32) (w : Fin 256) : Fin 16384 :=
  ⟨(b.val * 32 + h.val) * 256 + w.val, by have := b.isLt; have := h.isLt; have := w.isLt; omega⟩

theorem cast_flat (x : S2x32x256x128.Idx → α) (hs : S2x32x256x128.ShapeCasts S16384x128) (b : Fin 2) (h : Fin 32) (w : Fin 256) (k : Fin 128) :
    shapeCast S16384x128 x hs (ix2 (flat b h w) k) = x (ix4 b h w k) := by
  refine shapeCast_apply x hs (ix2 (flat b h w) k) (ix4 b h w k) ?_
  rw [Shape.rowMajor_val_four, Shape.rowMajor_val_two]
  rfl

theorem cast_unflat (x : S16384x256.Idx → α) (hs : S16384x256.ShapeCasts S2x32x256x256) (b : Fin 2) (h : Fin 32) (w : Fin 256) (o : Fin 256) :
    shapeCast S2x32x256x256 x hs (ix4 b h w o) = x (ix2 (flat b h w) o) := by
  refine shapeCast_apply x hs (ix4 b h w o) (ix2 (flat b h w) o) ?_
  rw [Shape.rowMajor_val_four, Shape.rowMajor_val_two]
  rfl

/-- A row of the statistics spread over a block. -/
theorem spread_at (x : S2x128.Idx → α) (hs : S2x128.ShapeCasts S2x1x1x128) (hb : S2x1x1x128.Broadcasts S2x32x256x128) (b : Fin 2)
    (h : Fin 32) (w : Fin 256) (k : Fin 128) :
    broadcastTo S2x32x256x128 (shapeCast S2x1x1x128 x hs) hb (ix4 b h w k) = x (ix2 b k) := by
  refine (broadcastTo_apply _ hb (ix4 b h w k) (ix4 b 0 0 k) fun a => ?_).trans ?_
  · match a with
    | ⟨0, _⟩ => rfl
    | ⟨1, _⟩ => rfl
    | ⟨2, _⟩ => rfl
    | ⟨3, _⟩ => rfl
  · refine shapeCast_apply x hs (ix4 b 0 0 k) (ix2 b k) ?_
    rw [Shape.rowMajor_val_four, Shape.rowMajor_val_two]
    show b.val * 128 + k.val = ((b.val * 1 + 0) * 1 + 0) * 128 + k.val
    omega

end Casts

/-! ## The second body's block -/

variable (x : Vec Ideal S2x32x256x128 .f32) (s0 s1 : Vec Ideal S1x2x128 .f32) (wp : Vec Ideal S128x256 .f32)

/-- The affine image of the block, and its activation, as the body computes them. -/
def affine : FVec Ideal S2x32x256x128 .bf16 :=
  addf (mulf (truncf .bf16 (shapeCast S2x32x256x128 x shapeCasts_S2x32x256x128_S2x32x256x128) bitsLt_bf16_f32)
      (broadcastTo S2x32x256x128 (shapeCast S2x1x1x128 (truncf .bf16 (shapeCast S2x128 s0 shapeCasts_S1x2x128_S2x128 : FVec Ideal S2x128 .f32) bitsLt_bf16_f32)
        shapeCasts_S2x128_S2x1x1x128) broadcasts_S2x1x1x128_S2x32x256x128))
    (broadcastTo S2x32x256x128 (shapeCast S2x1x1x128 (truncf .bf16 (shapeCast S2x128 s1 shapeCasts_S1x2x128_S2x128 : FVec Ideal S2x128 .f32) bitsLt_bf16_f32)
        shapeCasts_S2x128_S2x1x1x128) broadcasts_S2x1x1x128_S2x32x256x128)

def activated : FVec Ideal S2x32x256x128 .bf16 :=
  mulf (mulf (broadcast S2x32x256x128 (Scalar.ofBits .bf16 0x3F00#16)) (affine x s0 s1))
    (addf (tanh (mulf (broadcast S2x32x256x128 (Scalar.ofBits .bf16 0x3F00#16)) (affine x s0 s1)))
      (broadcast S2x32x256x128 (Scalar.ofBits .bf16 0x3F80#16)))

theorem affine_at (b : Fin 2) (h : Fin 32) (w : Fin 256) (k : Fin 128) :
    affine x s0 s1 (ix4 b h w k) = x (ix4 b h w k) * s0 (ix3 0 b k) + s1 (ix3 0 b k) := by
  unfold affine
  rw [addf_apply, mulf_apply, spread_at, spread_at, truncf_apply, truncf_apply, truncf_apply, cast_row, cast_row, shapeCast_self]

theorem activated_at (b : Fin 2) (h : Fin 32) (w : Fin 256) (k : Fin 128) :
    activated x s0 s1 (ix4 b h w k) = apply (x (ix4 b h w k)) (s0 (ix3 0 b k)) (s1 (ix3 0 b k)) := by
  unfold apply
  rw [← affine_at]
  rfl

theorem pay_eq : k1_pay1 x s0 s1 wp
    = shapeCast S2x32x256x256 (truncf .bf16 (matmul (DotDims.plain 16384 128 256) none
        (shapeCast S16384x128 (activated x s0 s1) shapeCasts_S2x32x256x128_S16384x128)
        (truncf .bf16 (shapeCast S128x256 wp shapeCasts_S128x256_S128x256 : FVec Ideal S128x256 .f32) bitsLt_bf16_f32)
        (constant S16384x256 .f32 0x00000000#32)) bitsLt_bf16_f32 : FVec Ideal S16384x256 .bf16) shapeCasts_S16384x256_S2x32x256x256 := rfl

/-- The second body's block at an entry. -/
theorem block_at (b : Fin 2) (h : Fin 32) (w : Fin 256) (o : Fin 256) :
    k1_pay1 x s0 s1 wp (ix4 b h w o)
      = ∑ k : Fin 128, apply (x (ix4 b h w k)) (s0 (ix3 0 b k)) (s1 (ix3 0 b k)) * wp (ix2 k o) := by
  rw [pay_eq, cast_unflat, truncf_apply]
  refine (Ideal.matmul_plain_apply none _ _ _ (flat b h w) o).trans ?_
  rw [constant_apply, Ideal.ofBits_zero_f32, zero_add]
  refine Finset.sum_congr rfl fun k _ => ?_
  rw [cast_flat, activated_at, truncf_apply, shapeCast_self]

/-! ## The result -/

variable (m : (ℓ : Loc nD τ sig) → Buf (Elt Ideal) ℓ)

/-- The kernel's result on device `c` at an entry. -/
theorem out_at (c : Dev nD) (b : Fin 2) (r : Fin 256) (w : Fin 256) (o : Fin 256) :
    U2 m c (Proc.devRef .tc main_v2) (ix4 b r w o)
      = ∑ k : Fin 128, apply (inAt m c b k r w) (scaleOf (total m (fun x => x) b k) (total m (fun x => x * x) b k))
          (shiftOf (total m (fun x => x) b k) (total m (fun x => x * x) b k)) * m ((c : Thread nD τ).loc main_arg1) (ix2 k o) := by
  rw [U2_out]
  show k1_pay1 (yblk m c (blockOf r)) (rowOf 0 (sblk m c (blockOf r))) (rowOf 1 (sblk m c (blockOf r))) (wblk m c (blockOf r))
    (ix4 b (within r) w o) = _
  rw [block_at, sblk_eq, wblk_eq]
  refine Finset.sum_congr rfl fun k _ => ?_
  have hr : rowAt (blockOf r).val (within r).val (N1_lt _) (within r).isLt = r := Fin.ext (by
    show 32 * (r.val / 32) + r.val % 32 = r.val; omega)
  rw [rowOf_at0, rowOf_at1, (final_at m b k).1, (final_at m b k).2, yblk_apply, hr]
  rfl

end Cert.KernelIdeal.Talk

end
-- ==== Proof.RefValue.lean ====
/- The reference's result over the extended reals, entry by entry: a sum over the channels of the activated entry times the weight. -/
module

public import proofs.«01_k».proof.Proof.KernelValue
public import Idealize.ShloMosaic.Lib.StackMember
public import proofs.«01_k».proof.Proof.Gen.ReferenceIdeal.Run

@[expose] public section

noncomputable section

namespace Cert.ReferenceIdeal.Value

open Idealize.ShloMosaic Idealize.ShloMosaic.ValueIdx
open Idealize.ShloMosaic.TcCoe
open Idealize.SL.Sem
open Cert.ReferenceIdeal Cert.ReferenceIdeal.Gen
open Cert.Value
open scoped BigOperators

/-! ## The layout operations -/

section Layout

variable {α : Type}

/-- The row of the flattened array that an entry lies in. -/
def flat (b : Fin 2) (h : Fin 1024) (w : Fin 256) : Fin 524288 :=
  ⟨(b.val * 1024 + h.val) * 256 + w.val, by have := b.isLt; have := h.isLt; have := w.isLt; omega⟩

theorem cast_flat (x : S2x1024x256x128.Idx → α) (hs : S2x1024x256x128.ShapeCasts S524288x128) (b : Fin 2) (h : Fin 1024) (w : Fin 256)
    (k : Fin 128) : shapeCast S524288x128 x hs (ix2 (flat b h w) k) = x (ix4 b h w k) := by
  refine shapeCast_apply x hs (ix2 (flat b h w) k) (ix4 b h w k) ?_
  rw [Shape.rowMajor_val_four, Shape.rowMajor_val_two]
  rfl

theorem cast_unflat (x : S524288x256.Idx → α) (hs : S524288x256.ShapeCasts S2x1024x256x256) (b : Fin 2) (h : Fin 1024) (w : Fin 256)
    (o : Fin 256) : shapeCast S2x1024x256x256 x hs (ix4 b h w o) = x (ix2 (flat b h w) o) := by
  refine shapeCast_apply x hs (ix4 b h w o) (ix2 (flat b h w) o) ?_
  rw [Shape.rowMajor_val_four, Shape.rowMajor_val_two]
  rfl

/-- A value per channel, spread over the array. -/
theorem spread_at (x : S2x1x1x128.Idx → α) (hb : S2x1x1x128.BroadcastsInDim S2x1024x256x128 ![0, 1, 2, 3]) (b : Fin 2) (h : Fin 1024)
    (w : Fin 256) (k : Fin 128) : broadcastInDim S2x1024x256x128 ![0, 1, 2, 3] hb x (ix4 b h w k) = x (ix4 b 0 0 k) := by
  refine broadcastInDim_apply _ hb x (ix4 b h w k) (ix4 b 0 0 k) fun a => ?_
  match a with
  | ⟨0, _⟩ => rfl
  | ⟨1, _⟩ => rfl
  | ⟨2, _⟩ => rfl
  | ⟨3, _⟩ => rfl

theorem keep_at (x : S2x128.Idx → α) (hb : S2x128.BroadcastsInDim S2x1x1x128 ![0, 3]) (b : Fin 2) (k : Fin 128) :
    broadcastInDim S2x1x1x128 ![0, 3] hb x (ix4 b 0 0 k) = x (ix2 b k) := by
  refine broadcastInDim_apply _ hb x (ix4 b 0 0 k) (ix2 b k) fun a => ?_
  match a with
  | ⟨0, _⟩ => rfl
  | ⟨1, _⟩ => rfl

theorem one_at {t : Shape} (x : S_.Idx → α) (hb : S_.BroadcastsInDim t ![]) (j : t.Idx) : broadcastInDim t ![] hb x j = x ix0 :=
  broadcastInDim_apply _ hb x j ix0 fun a => a.elim0

end Layout

theorem drop_eq (h : S2x1024x256x128.ReducesTo [1, 2] S2x128) (i : S2x1024x256x128.Idx) : h.drop i = ix2 (i 0) (i 3) := by
  funext a
  apply Fin.ext
  match a with
  | ⟨0, _⟩ => exact h.drop_apply_val_of_eq i 0 0
  | ⟨1, _⟩ => exact h.drop_apply_val_of_eq i 1 3

/-! ## The value, by parts -/

variable (x : FVec Ideal S2x1024x256x128 .f32) (wp : FVec Ideal S128x256 .f32)

/-- The sum over a channel. -/
def sumOf : FVec Ideal S2x128 .f32 :=
  Host.reduceAdd x (constant S_ .f32 0x00000000#32) reducesTo_S2x1024x256x128_S2x128_d1_2 h_S_
/-- The means, one per channel, and the distances from them. -/
def means : FVec Ideal S2x1x1x128 .f32 :=
  Host.divf (broadcastInDim S2x1x1x128 ![0, 3] bcast_S2x128_S2x1x1x128_0_3 (sumOf x))
    (broadcastInDim S2x1x1x128 ![] bcast_S_S2x1x1x128 (constant S_ .f32 0x48800000#32))
def centred : FVec Ideal S2x1024x256x128 .f32 :=
  subf x (broadcastInDim S2x1024x256x128 ![0, 1, 2, 3] bcast_S2x1x1x128_S2x1024x256x128_0_1_2_3 (means x))
/-- The number the squared distances are divided by. -/
def countLess : FVec Ideal S_ .f32 := subf (constant S_ .f32 0x48800000#32) (sitofp .f32 (constantI S_ 32 0#32))
/-- The variances. -/
def vars : FVec Ideal S2x1x1x128 .f32 :=
  select (broadcastInDim S2x1x1x128 ![] bcast_S_S2x1x1x128 (cmpf .ogt countLess (constant S_ .f32 0x00000000#32)))
    (Host.divf (broadcastInDim S2x1x1x128 ![0, 3] bcast_S2x128_S2x1x1x128_0_3 (sumOf (mulf (centred x) (centred x))))
      (broadcastInDim S2x1x1x128 ![] bcast_S_S2x1x1x128 countLess))
    (broadcastInDim S2x1x1x128 ![] bcast_S_S2x1x1x128 (id (constant S_ .f32 0x7FC00000#32)))
/-- The normalised entries. -/
def normed : FVec Ideal S2x1024x256x128 .f32 :=
  Host.divf (centred x) (broadcastInDim S2x1024x256x128 ![0, 1, 2, 3] bcast_S2x1x1x128_S2x1024x256x128_0_1_2_3
    (Host.sqrt (addf (vars x) (broadcastInDim S2x1x1x128 ![] bcast_S_S2x1x1x128 (constant S_ .f32 0x3727C5AC#32)))))
/-- The activated entries. -/
def activated : FVec Ideal S2x1024x256x128 .f32 :=
  Host.divf (normed x) (addf (broadcastInDim S2x1024x256x128 ![] bcast_S_S2x1024x256x128 (constant S_ .f32 0x3F800000#32))
    (Host.exp (Host.negf (normed x))))
/-- Their product with the weight. -/
def projected : FVec Ideal S2x1024x256x256 .bf16 :=
  truncf .bf16 (shapeCast S2x1024x256x256 (Host.dotGeneral (DotDims.plain 524288 128 256) none
    (shapeCast S524288x128 (activated x) shapeCasts_S2x1024x256x128_S524288x128) wp) shapeCasts_S524288x256_S2x1024x256x256 : FVec Ideal _ .f32)
    bitsLt_bf16_f32

/-! ## At an entry -/

/-- The sum of a family over the entries of a channel. -/
def channel (f : FVec Ideal S2x1024x256x128 .f32) (b : Fin 2) (k : Fin 128) : EReal := ∑ p : Fin 1024 × Fin 256, f (ix4 b p.1 p.2 k)

theorem sumOf_at (b : Fin 2) (k : Fin 128) : sumOf x (ix2 b k) = Ideal.ofBits .f32 0x00000000#32 + channel x b k := by
  unfold channel
  rw [← sum_between (M := EReal) _ (drop_eq reducesTo_S2x1024x256x128_S2x128_d1_2) x b k]
  rfl

theorem means_at (b : Fin 2) (k : Fin 128) : means x (ix4 b 0 0 k) = meanOf (channel x b k) := by
  unfold meanOf
  rw [← sumOf_at, ← keep_at (sumOf x) bcast_S2x128_S2x1x1x128_0_3, ← constant_apply (s := S_) (φ := .f32) 0x48800000#32 ix0,
    ← one_at (constant (F := Ideal) S_ .f32 0x48800000#32) bcast_S_S2x1x1x128 (ix4 b 0 0 k)]
  rfl

theorem centred_at (b : Fin 2) (h : Fin 1024) (w : Fin 256) (k : Fin 128) :
    centred x (ix4 b h w k) = x (ix4 b h w k) - meanOf (channel x b k) := by
  unfold centred
  rw [subf_apply, spread_at, means_at]

theorem countLess_at : countLess ix0 = Ideal.ofBits .f32 0x48800000#32 - (((0#32 : BitVec 32).toInt : ℝ) : EReal) := rfl

theorem vars_at (b : Fin 2) (k : Fin 128) : vars x (ix4 b 0 0 k)
    = varOf (∑ p : Fin 1024 × Fin 256, (x (ix4 b p.1 p.2 k) - meanOf (channel x b k)) * (x (ix4 b p.1 p.2 k) - meanOf (channel x b k))) := by
  have e : ∑ p : Fin 1024 × Fin 256, (x (ix4 b p.1 p.2 k) - meanOf (channel x b k)) * (x (ix4 b p.1 p.2 k) - meanOf (channel x b k))
      = channel (mulf (centred x) (centred x)) b k :=
    Finset.sum_congr rfl fun p _ => by rw [mulf_apply, centred_at]
  rw [e]
  unfold vars varOf
  rw [select_apply, one_at, one_at, cmpf_apply, ← sumOf_at, ← keep_at (sumOf _) bcast_S2x128_S2x1x1x128_0_3, ← countLess_at,
    ← one_at countLess bcast_S_S2x1x1x128 (ix4 b 0 0 k)]
  rfl

theorem normed_at (b : Fin 2) (h : Fin 1024) (w : Fin 256) (k : Fin 128) : normed x (ix4 b h w k)
    = normOf (x (ix4 b h w k)) (meanOf (channel x b k))
        (varOf (∑ p : Fin 1024 × Fin 256, (x (ix4 b p.1 p.2 k) - meanOf (channel x b k)) * (x (ix4 b p.1 p.2 k) - meanOf (channel x b k)))) := by
  unfold normOf
  rw [← centred_at, ← vars_at]
  show Ideal.div (centred x (ix4 b h w k)) (broadcastInDim S2x1024x256x128 ![0, 1, 2, 3] bcast_S2x1x1x128_S2x1024x256x128_0_1_2_3
    (Host.sqrt (addf (vars x) (broadcastInDim S2x1x1x128 ![] bcast_S_S2x1x1x128 (constant (F := Ideal) S_ .f32 0x3727C5AC#32)))) (ix4 b h w k)) = _
  rw [spread_at]
  show Ideal.div _ (Ideal.sqrt (vars x (ix4 b 0 0 k) + broadcastInDim S2x1x1x128 ![] bcast_S_S2x1x1x128 (constant (F := Ideal) S_ .f32 0x3727C5AC#32)
    (ix4 b 0 0 k))) = _
  rw [one_at, constant_apply]

theorem activated_at (b : Fin 2) (h : Fin 1024) (w : Fin 256) (k : Fin 128) : activated x (ix4 b h w k) = siluOf (normed x (ix4 b h w k)) := by
  show Ideal.div (normed x (ix4 b h w k)) (broadcastInDim S2x1024x256x128 ![] bcast_S_S2x1024x256x128 (constant (F := Ideal) S_ .f32 0x3F800000#32) (ix4 b h w k)
    + Ideal.exp (-(normed x (ix4 b h w k)))) = _
  rw [one_at, constant_apply]
  rfl

theorem projected_at (b : Fin 2) (h : Fin 1024) (w : Fin 256) (o : Fin 256) :
    projected x wp (ix4 b h w o) = ∑ k : Fin 128, siluOf (normed x (ix4 b h w k)) * wp (ix2 k o) := by
  unfold projected
  rw [truncf_apply, cast_unflat, StackMember.dotGeneral_plain_apply]
  refine Finset.sum_congr rfl fun k _ => ?_
  rw [cast_flat, activated_at]

variable (m : (ℓ : Loc nD τ sig) → Buf (Elt Ideal) ℓ)

/-- The reference's result is the product above. -/
theorem res_eq (c : Dev nD) : res_out0 m c = projected (m ((c : Thread nD τ).loc main_arg0)) (m ((c : Thread nD τ).loc main_arg1)) := by
  unfold res_out0 res_main_v20
  rfl

end Cert.ReferenceIdeal.Value

end
-- ==== Proof.Algebraic.lean ====
/- The kernel computes what the reference computes, for a finite input: each device's result is its block of the reference's. -/
module

public import proofs.«01_k».proof.Proof.RefValue
public import Idealize.ShloMosaic.Lib.ReduceAll
public import Idealize.ShloMosaic.Lib.Layout

@[expose] public section

noncomputable section

namespace Cert.Proof

open Idealize.ShloMosaic Idealize.ShloMosaic.ValueIdx
open Idealize.ShloMosaic.TcCoe
open Idealize.SL.Sem
open Cert.Value
open scoped BigOperators

/-! ## The precondition -/

theorem facts_pre_kernel : Cert.Pre_finite_KernelIdeal.Facts where
  bcast_S_S2x256x256x128 := by decide
  reducesTo_S2x256x256x128_S_d0_1_2_3 := by decide
  h_S_ := by decide

theorem facts_pre_reference : Cert.Pre_finite_ReferenceIdeal.Facts where
  bcast_S_S2x1024x256x128 := by decide
  reducesTo_S2x1024x256x128_S_d0_1_2_3 := by decide
  h_S_ := by decide

instance : Subsingleton Cert.Pre_finite_KernelIdeal.S_.Idx := ⟨fun a b => funext fun d => d.elim0⟩

theorem ofBits_inf : Ideal.ofBits .f32 0x7F800000#32 = ⊤ := by simp [Ideal.ofBits, Ideal.ieee]

/-- A value whose absolute value is below infinity is a real number. -/
theorem real_of_abs_lt {x : EReal} (h : max x (-x) < ⊤) : x = ((x.toReal : ℝ) : EReal) := by
  refine (EReal.coe_toReal ?_ ?_).symm
  · rintro rfl; simp at h
  · rintro rfl; simp at h

/-- The precondition says that every entry is a real number. -/
theorem finite_entry [Cert.Pre_finite_KernelIdeal.Facts] (x : FVec Ideal Cert.Pre_finite_KernelIdeal.S2x256x256x128 .f32)
    (wp : FVec Ideal Cert.Pre_finite_KernelIdeal.S128x256 .f32) (h : Cert.Pre_finite_KernelIdeal.fn x wp = fun _ => 1#1)
    (i : Cert.Pre_finite_KernelIdeal.S2x256x256x128.Idx) : x i = (((x i).toReal : ℝ) : EReal) := by
  have e := Host.reduce_andi_all _ _ _ _ ix0 (congrFun h ix0) i
  have e' : BitVec.ofBool (decide (max (x i) (-(x i)) < Ideal.ofBits .f32 0x7F800000#32)) = 1#1 := e
  rw [ofBits_inf] at e'
  refine real_of_abs_lt ?_
  by_contra hn
  rw [decide_eq_false hn] at e'
  exact absurd e' (by decide)

/-! ## The whole array and its blocks -/

/-- The row of the whole array that is row `r` of device `c`'s block. -/
def deviceRow (c : Fin 4) (r : Fin 256) : Fin 1024 := ⟨256 * c.val + r.val, by have := c.isLt; have := r.isLt; omega⟩

theorem block_entry {α : Type} {C : ℕ} (h : Layout.Tiles ⟨4, ![2, 256, 256, C]⟩ ⟨4, ![2, 1024, 256, C]⟩ 1 4) (c : Fin 4) (b : Fin 2)
    (r : Fin 256) (w : Fin 256) (k : Fin C) (v : (⟨4, ![2, 1024, 256, C]⟩ : Shape).Idx → α) :
    Layout.block ⟨4, ![2, 256, 256, C]⟩ ⟨4, ![2, 1024, 256, C]⟩ 1 4 c v h (ix4 b r w k) = v (ix4 b (deviceRow c r) w k) := by
  rw [Layout.block_apply]
  refine congrArg v (funext fun a => Fin.ext ?_)
  match a with
  | ⟨0, _⟩ => rfl
  | ⟨1, _⟩ => show c.val * 256 + r.val = 256 * c.val + r.val; omega
  | ⟨2, _⟩ => rfl
  | ⟨3, _⟩ => rfl

theorem exists_device (h : Fin 1024) : ∃ (c : Fin 4) (r : Fin 256), h = deviceRow c r :=
  ⟨⟨h.val / 256, by have := h.isLt; omega⟩, ⟨h.val % 256, by omega⟩, Fin.ext (by show h.val = 256 * (h.val / 256) + h.val % 256; omega)⟩

theorem card_channel : (Fintype.card (Fin 1024 × Fin 256) : ℝ) = 262144 := by
  rw [Fintype.card_prod, Fintype.card_fin, Fintype.card_fin]; norm_num

section Values

variable (m : (ℓ : Loc Cert.KernelIdeal.nD Cert.KernelIdeal.τ Cert.KernelIdeal.sig) → Buf (Elt Ideal) ℓ)
  (X : FVec Ideal Cert.ReferenceIdeal.S2x1024x256x128 .f32) (W : FVec Ideal Cert.ReferenceIdeal.S128x256 .f32)
  (hX : ∀ c : Dev Cert.KernelIdeal.nD, m ((c.tc : Thread Cert.KernelIdeal.nD Cert.KernelIdeal.τ).loc Cert.KernelIdeal.main_arg0)
    = Layout.block ⟨4, ![2, 256, 256, 128]⟩ ⟨4, ![2, 1024, 256, 128]⟩ 1 4 c X)
  (hW : ∀ c : Dev Cert.KernelIdeal.nD, m ((c.tc : Thread Cert.KernelIdeal.nD Cert.KernelIdeal.τ).loc Cert.KernelIdeal.main_arg1) = W)

include hX

theorem inAt_eq (c : Dev Cert.KernelIdeal.nD) (b : Fin 2) (k : Fin 128) (r w : Fin 256) :
    Cert.KernelIdeal.Talk.inAt m c b k r w = X (ix4 b (deviceRow c r) w k) := by
  unfold Cert.KernelIdeal.Talk.inAt
  rw [hX c]
  exact block_entry (by decide) c b r w k X

/-- Under the precondition every entry of the whole array is a real number. -/
theorem finite_whole (wp : Dev Cert.KernelIdeal.nD → FVec Ideal Cert.Pre_finite_KernelIdeal.S128x256 .f32)
    (hpre : ∀ c : Dev Cert.KernelIdeal.nD, @Cert.Pre_finite_KernelIdeal.fn facts_pre_kernel Ideal _
      (m ((c.tc : Thread Cert.KernelIdeal.nD Cert.KernelIdeal.τ).loc Cert.KernelIdeal.main_arg0)) (wp c) = fun _ => 1#1) (i) :
    X i = (((X i).toReal : ℝ) : EReal) := by
  obtain ⟨b, h, w, k, rfl⟩ : ∃ (b : Fin 2) (h : Fin 1024) (w : Fin 256) (k : Fin 128), i = ix4 b h w k := ⟨i 0, i 1, i 2, i 3, eq_ix4 i⟩
  obtain ⟨c, r, rfl⟩ := exists_device h
  rw [← inAt_eq m X hX c b k r w]
  exact @finite_entry facts_pre_kernel _ _ (hpre c) (ix4 b r w k)

/-- The devices' sums add up to the sum over the whole channel. -/
theorem total_eq (g : EReal → EReal) (b : Fin 2) (k : Fin 128) :
    Cert.KernelIdeal.Talk.total m g b k = ∑ p : Fin 1024 × Fin 256, g (X (ix4 b p.1 p.2 k)) := by
  refine Eq.trans ?_ (sum_rows fun h w => g (X (ix4 b h w k))).symm
  refine Finset.sum_congr rfl fun d _ => Finset.sum_congr rfl fun t _ => Finset.sum_congr rfl fun p _ => ?_
  rw [inAt_eq m X hX]
  rfl

include hW

/-- The two results agree, entry by entry, when every entry of the input is a real number. -/
theorem value_eq (hfin : ∀ i, X i = (((X i).toReal : ℝ) : EReal)) (c : Dev Cert.KernelIdeal.nD) :
    Cert.KernelIdeal.Talk.U2 m c (Proc.devRef .tc Cert.KernelIdeal.main_v2)
      = Layout.block ⟨4, ![2, 256, 256, 256]⟩ ⟨4, ![2, 1024, 256, 256]⟩ 1 4 c (Cert.ReferenceIdeal.Value.projected X W) := by
  refine funext fun i => ?_
  obtain ⟨b, r, w, o, rfl⟩ : ∃ (b : Fin 2) (r w o : Fin 256), i = ix4 b r w o := ⟨i 0, i 1, i 2, i 3, eq_ix4 i⟩
  refine (Cert.KernelIdeal.Talk.out_at m c b r w o).trans ?_
  refine Eq.trans ?_ (block_entry (by decide) c b r w o (Cert.ReferenceIdeal.Value.projected X W)).symm
  rw [Cert.ReferenceIdeal.Value.projected_at]
  show @Eq EReal _ _
  refine Finset.sum_congr rfl fun k _ => ?_
  rw [hW c, inAt_eq m X hX, total_eq m X hX, total_eq m X hX, Cert.ReferenceIdeal.Value.normed_at]
  refine congrArg (· * _) ?_
  rw [hfin (ix4 b (deviceRow c r) w k)]
  have e : ∀ p : Fin 1024 × Fin 256, X (ix4 b p.1 p.2 k) = (((X (ix4 b p.1 p.2 k)).toReal : ℝ) : EReal) := fun p => hfin _
  refine (apply_real card_channel (fun p : Fin 1024 × Fin 256 => (X (ix4 b p.1 p.2 k)).toReal) _ _ _
    (Finset.sum_congr rfl fun p _ => e p) (Finset.sum_congr rfl fun p _ => congrArg₂ (· * ·) (e p) (e p))).trans ?_
  refine (siluOf_real (fun p : Fin 1024 × Fin 256 => (X (ix4 b p.1 p.2 k)).toReal) _ _
    (Finset.sum_congr rfl fun p _ => e p) _ (Finset.sum_congr rfl fun p _ => ?_)).symm
  rw [← e p]
  rfl

end Values

/-! ## The claim -/

theorem algebraic : @Cert.algebraic_KernelIdeal_ReferenceIdeal_pre_finite_KernelIdeal Cert.KernelIdeal.Gen.facts Cert.ReferenceIdeal.Gen.facts
    facts_pre_kernel := by
  intro m g m' g' hpre hargs
  have hX := fun c => (hargs c).1
  have hW := fun c => (hargs c).2
  have hfin := finite_whole m _ hX _ hpre
  refine ⟨Cert.ReferenceIdeal.Value.res_out0 m' 0, ?_, ?_⟩
  · refine (θ_run Cert.KernelIdeal.defs _ _).mono (fun r h c => ?_) (Cert.KernelIdeal.Talk.run_ends m g)
    obtain ⟨hv, h0, h1⟩ := h.1 c
    refine ⟨hv.trans ?_, h0, h1⟩
    rw [Cert.ReferenceIdeal.Value.res_eq]
    exact value_eq m _ _ hX hW hfin c
  · exact (θ_run Cert.ReferenceIdeal.defs _ _).mono (fun r h => h 0) (Cert.ReferenceIdeal.Value.run m' g')

end Cert.Proof

end
-- ==== Proof.lean ====
module

public import proofs.«01_k».proof.Defs
public import proofs.«01_k».proof.Proof.Frames
public import proofs.«01_k».proof.Proof.Algebraic

@[expose] public section

noncomputable section

namespace Cert.Proof

theorem claim : Cert.Claim :=
  ⟨Cert.Kernel.Gen.facts, Cert.KernelIdeal.Gen.facts, Cert.ReferenceIdeal.Gen.facts, facts_pre_kernel, facts_pre_reference,
    frame_kernel, frame_ideal, fun m g _ => frame_ideal m g trivial, frame_reference, fun m g _ => frame_reference m g trivial, trivial,
    algebraic⟩

end Cert.Proof

end
